-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 256]⟩ ⟨2, ![512, 512]⟩ (Layout.meshBlock [2, 2] ![[], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![256, 512]⟩ ⟨2, ![512, 1024]⟩ (Layout.meshBlock [2, 2] ![[1], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![512, 256]⟩ ⟨2, ![1024, 512]⟩ (Layout.meshBlock [2, 2] ![[0], [1]] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![256, 512]⟩ ⟨2, ![512, 1024]⟩ (Layout.meshBlock [2, 2] ![[1], [0]] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.blockN ⟨2, ![512, 256]⟩ ⟨2, ![1024, 512]⟩ (Layout.meshBlock [2, 2] ![[0], [1]] c) (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.blockN ⟨2, ![256, 512]⟩ ⟨2, ![512, 1024]⟩ (Layout.meshBlock [2, 2] ![[1], [0]] c) (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.blockN ⟨2, ![512, 256]⟩ ⟨2, ![1024, 512]⟩ (Layout.meshBlock [2, 2] ![[0], [1]] c) (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 256]⟩ ⟨2, ![512, 512]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S12x128x512 : Shape := ⟨3, ![12, 128, 512]⟩
abbrev S12x128x256 : Shape := ⟨3, ![12, 128, 256]⟩
abbrev S4x128x512 : Shape := ⟨3, ![4, 128, 512]⟩
abbrev S4x128x256 : Shape := ⟨3, ![4, 128, 256]⟩
abbrev S12 : Shape := ⟨1, ![12]⟩
abbrev S_ : Shape := ⟨0, ![]⟩
abbrev S128x256 : Shape := ⟨2, ![128, 256]⟩
abbrev S128x512 : Shape := ⟨2, ![128, 512]⟩
abbrev S1x128x512 : Shape := ⟨3, ![1, 128, 512]⟩
abbrev S1 : Shape := ⟨1, ![1]⟩
abbrev S1x128x256 : Shape := ⟨3, ![1, 128, 256]⟩

abbrev nBuf : Space → Nat
  | .hbm => 8
  | .vmem => 14
  | .smem => 0
  | _ => 0

abbrev bufTy : (tb : Table) → Fin (tcTables nBuf tb) → BufTy
  | .hbm, ⟨0, _⟩ => ⟨S512x256, .f32⟩
  | .hbm, ⟨1, _⟩ => ⟨S256x512, .f32⟩
  | .hbm, ⟨2, _⟩ => ⟨S512x256, .f32⟩
  | .hbm, ⟨3, _⟩ => ⟨S256x512, .f32⟩
  | .hbm, ⟨4, _⟩ => ⟨S512x256, .f32⟩
  | .hbm, ⟨5, _⟩ => ⟨S256x512, .f32⟩
  | .hbm, ⟨6, _⟩ => ⟨S512x256, .f32⟩
  | .hbm, ⟨7, _⟩ => ⟨S512x256, .f32⟩
  | .local _ .vmem, ⟨0, _⟩ => ⟨S512x256, .f32⟩
  | .local _ .vmem, ⟨1, _⟩ => ⟨S256x512, .f32⟩
  | .local _ .vmem, ⟨2, _⟩ => ⟨S512x256, .f32⟩
  | .local _ .vmem, ⟨3, _⟩ => ⟨S256x512, .f32⟩
  | .local _ .vmem, ⟨4, _⟩ => ⟨S512x256, .f32⟩
  | .local _ .vmem, ⟨5, _⟩ => ⟨S256x512, .f32⟩
  | .local _ .vmem, ⟨6, _⟩ => ⟨S512x256, .f32⟩
  | .local _ .vmem, ⟨7, _⟩ => ⟨S512x256, .f32⟩
  | .local _ .vmem, ⟨8, _⟩ => ⟨S12x128x512, .bf16⟩
  | .local _ .vmem, ⟨9, _⟩ => ⟨S12x128x512, .bf16⟩
  | .local _ .vmem, ⟨10, _⟩ => ⟨S12x128x256, .bf16⟩
  | .local _ .vmem, ⟨11, _⟩ => ⟨S12x128x256, .bf16⟩
  | .local _ .vmem, ⟨12, _⟩ => ⟨S4x128x512, .f32⟩
  | .local _ .vmem, ⟨13, _⟩ => ⟨S4x128x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  (ofTc nBuf bufTy 1 56 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v9 : BitVec 32 := Scalar.muli v2 c2_i32_5
  let v10 : BitVec 32 := Scalar.addi c0_i32 v9
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6 : BitVec 32 := 1#32
  let v11 : BitVec 32 := Scalar.muli v6 c1_i32_6
  let v12 : BitVec 32 := Scalar.addi v10 v11
  v12.toNat
def k0_dev2 (d0 : Dev nD) : Nat :=
  let c0_i32_9 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_8 : BitVec 32 := 2#32
  let v13 : BitVec 32 := Scalar.muli v7 c2_i32_8
  let v14 : BitVec 32 := Scalar.addi c0_i32_9 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v15 : BitVec 32 := Scalar.muli v5 c1_i32_10
  let v16 : BitVec 32 := Scalar.addi v14 v15
  v16.toNat
def k0_dev3 (d0 : Dev nD) : Nat :=
  let c0_i32_26 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_25 : BitVec 32 := 2#32
  let v29 : BitVec 32 := Scalar.muli v2 c2_i32_25
  let v30 : BitVec 32 := Scalar.addi c0_i32_26 v29
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_27 : BitVec 32 := 1#32
  let v31 : BitVec 32 := Scalar.muli v6 c1_i32_27
  let v32 : BitVec 32 := Scalar.addi v30 v31
  v32.toNat
def k0_dev4 (d0 : Dev nD) : Nat :=
  let c0_i32_46 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_45 : BitVec 32 := 2#32
  let v53 : BitVec 32 := Scalar.muli v2 c2_i32_45
  let v54 : BitVec 32 := Scalar.addi c0_i32_46 v53
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_47 : BitVec 32 := 1#32
  let v55 : BitVec 32 := Scalar.muli v6 c1_i32_47
  let v56 : BitVec 32 := Scalar.addi v54 v55
  v56.toNat
def k0_dev5 (d0 : Dev nD) : Nat :=
  let c0_i32_66 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_65 : BitVec 32 := 2#32
  let v77 : BitVec 32 := Scalar.muli v2 c2_i32_65
  let v78 : BitVec 32 := Scalar.addi c0_i32_66 v77
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_67 : BitVec 32 := 1#32
  let v79 : BitVec 32 := Scalar.muli v6 c1_i32_67
  let v80 : BitVec 32 := Scalar.addi v78 v79
  v80.toNat
def k0_dev6 (d0 : Dev nD) : Nat :=
  let c0_i32_85 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_84 : BitVec 32 := 2#32
  let v101 : BitVec 32 := Scalar.muli v2 c2_i32_84
  let v102 : BitVec 32 := Scalar.addi c0_i32_85 v101
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_86 : BitVec 32 := 1#32
  let v103 : BitVec 32 := Scalar.muli v6 c1_i32_86
  let v104 : BitVec 32 := Scalar.addi v102 v103
  v104.toNat
def k0_dev7 (d0 : Dev nD) : Nat :=
  let c0_i32_132 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_131 : BitVec 32 := 2#32
  let v147 : BitVec 32 := Scalar.muli v7 c2_i32_131
  let v148 : BitVec 32 := Scalar.addi c0_i32_132 v147
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_133 : BitVec 32 := 1#32
  let v149 : BitVec 32 := Scalar.muli v5 c1_i32_133
  let v150 : BitVec 32 := Scalar.addi v148 v149
  v150.toNat
def k0_dev8 (d0 : Dev nD) : Nat :=
  let c0_i32_179 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_178 : BitVec 32 := 2#32
  let v193 : BitVec 32 := Scalar.muli v7 c2_i32_178
  let v194 : BitVec 32 := Scalar.addi c0_i32_179 v193
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_180 : BitVec 32 := 1#32
  let v195 : BitVec 32 := Scalar.muli v5 c1_i32_180
  let v196 : BitVec 32 := Scalar.addi v194 v195
  v196.toNat
def k0_dev9 (d0 : Dev nD) : Nat :=
  let c0_i32_223 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_222 : BitVec 32 := 2#32
  let v237 : BitVec 32 := Scalar.muli v2 c2_i32_222
  let v238 : BitVec 32 := Scalar.addi c0_i32_223 v237
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_224 : BitVec 32 := 1#32
  let v239 : BitVec 32 := Scalar.muli v6 c1_i32_224
  let v240 : BitVec 32 := Scalar.addi v238 v239
  v240.toNat
def k0_dev10 (d0 : Dev nD) : Nat :=
  let c0_i32_270 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_269 : BitVec 32 := 2#32
  let v283 : BitVec 32 := Scalar.muli v7 c2_i32_269
  let v284 : BitVec 32 := Scalar.addi c0_i32_270 v283
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_271 : BitVec 32 := 1#32
  let v285 : BitVec 32 := Scalar.muli v5 c1_i32_271
  let v286 : BitVec 32 := Scalar.addi v284 v285
  v286.toNat
def k0_dev11 (d0 : Dev nD) : Nat :=
  let c0_i32_314 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_313 : BitVec 32 := 2#32
  let v327 : BitVec 32 := Scalar.muli v2 c2_i32_313
  let v328 : BitVec 32 := Scalar.addi c0_i32_314 v327
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_315 : BitVec 32 := 1#32
  let v329 : BitVec 32 := Scalar.muli v6 c1_i32_315
  let v330 : BitVec 32 := Scalar.addi v328 v329
  v330.toNat
def k0_dev12 (d0 : Dev nD) : Nat :=
  let c0_i32_361 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_360 : BitVec 32 := 2#32
  let v373 : BitVec 32 := Scalar.muli v7 c2_i32_360
  let v374 : BitVec 32 := Scalar.addi c0_i32_361 v373
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_362 : BitVec 32 := 1#32
  let v375 : BitVec 32 := Scalar.muli v5 c1_i32_362
  let v376 : BitVec 32 := Scalar.addi v374 v375
  v376.toNat
def k0_dev13 (d0 : Dev nD) : Nat :=
  let c0_i32_405 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_404 : BitVec 32 := 2#32
  let v417 : BitVec 32 := Scalar.muli v2 c2_i32_404
  let v418 : BitVec 32 := Scalar.addi c0_i32_405 v417
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_406 : BitVec 32 := 1#32
  let v419 : BitVec 32 := Scalar.muli v6 c1_i32_406
  let v420 : BitVec 32 := Scalar.addi v418 v419
  v420.toNat
def k0_dev14 (d0 : Dev nD) : Nat :=
  let c0_i32_449 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_448 : BitVec 32 := 2#32
  let v461 : BitVec 32 := Scalar.muli v2 c2_i32_448
  let v462 : BitVec 32 := Scalar.addi c0_i32_449 v461
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_450 : BitVec 32 := 1#32
  let v463 : BitVec 32 := Scalar.muli v6 c1_i32_450
  let v464 : BitVec 32 := Scalar.addi v462 v463
  v464.toNat
def k0_dev15 (d0 : Dev nD) : Nat :=
  let c0_i32_496 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_495 : BitVec 32 := 2#32
  let v507 : BitVec 32 := Scalar.muli v7 c2_i32_495
  let v508 : BitVec 32 := Scalar.addi c0_i32_496 v507
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_497 : BitVec 32 := 1#32
  let v509 : BitVec 32 := Scalar.muli v5 c1_i32_497
  let v510 : BitVec 32 := Scalar.addi v508 v509
  v510.toNat
def k0_dev16 (d0 : Dev nD) : Nat :=
  let c0_i32_543 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_542 : BitVec 32 := 2#32
  let v553 : BitVec 32 := Scalar.muli v7 c2_i32_542
  let v554 : BitVec 32 := Scalar.addi c0_i32_543 v553
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_544 : BitVec 32 := 1#32
  let v555 : BitVec 32 := Scalar.muli v5 c1_i32_544
  let v556 : BitVec 32 := Scalar.addi v554 v555
  v556.toNat
def k0_dev17 (d0 : Dev nD) : Nat :=
  let c0_i32_587 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_586 : BitVec 32 := 2#32
  let v597 : BitVec 32 := Scalar.muli v2 c2_i32_586
  let v598 : BitVec 32 := Scalar.addi c0_i32_587 v597
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_588 : BitVec 32 := 1#32
  let v599 : BitVec 32 := Scalar.muli v6 c1_i32_588
  let v600 : BitVec 32 := Scalar.addi v598 v599
  v600.toNat
def k0_dev18 (d0 : Dev nD) : Nat :=
  let c0_i32_634 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_633 : BitVec 32 := 2#32
  let v643 : BitVec 32 := Scalar.muli v7 c2_i32_633
  let v644 : BitVec 32 := Scalar.addi c0_i32_634 v643
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_635 : BitVec 32 := 1#32
  let v645 : BitVec 32 := Scalar.muli v5 c1_i32_635
  let v646 : BitVec 32 := Scalar.addi v644 v645
  v646.toNat
def k0_dev19 (d0 : Dev nD) : Nat :=
  let c0_i32_678 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_677 : BitVec 32 := 2#32
  let v687 : BitVec 32 := Scalar.muli v2 c2_i32_677
  let v688 : BitVec 32 := Scalar.addi c0_i32_678 v687
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_679 : BitVec 32 := 1#32
  let v689 : BitVec 32 := Scalar.muli v6 c1_i32_679
  let v690 : BitVec 32 := Scalar.addi v688 v689
  v690.toNat
def k0_dev20 (d0 : Dev nD) : Nat :=
  let c0_i32_725 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_724 : BitVec 32 := 2#32
  let v733 : BitVec 32 := Scalar.muli v7 c2_i32_724
  let v734 : BitVec 32 := Scalar.addi c0_i32_725 v733
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_726 : BitVec 32 := 1#32
  let v735 : BitVec 32 := Scalar.muli v5 c1_i32_726
  let v736 : BitVec 32 := Scalar.addi v734 v735
  v736.toNat
def k0_dev21 (d0 : Dev nD) : Nat :=
  let c0_i32_769 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_768 : BitVec 32 := 2#32
  let v777 : BitVec 32 := Scalar.muli v2 c2_i32_768
  let v778 : BitVec 32 := Scalar.addi c0_i32_769 v777
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_770 : BitVec 32 := 1#32
  let v779 : BitVec 32 := Scalar.muli v6 c1_i32_770
  let v780 : BitVec 32 := Scalar.addi v778 v779
  v780.toNat
def k0_dev22 (d0 : Dev nD) : Nat :=
  let c0_i32_813 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_812 : BitVec 32 := 2#32
  let v821 : BitVec 32 := Scalar.muli v2 c2_i32_812
  let v822 : BitVec 32 := Scalar.addi c0_i32_813 v821
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_814 : BitVec 32 := 1#32
  let v823 : BitVec 32 := Scalar.muli v6 c1_i32_814
  let v824 : BitVec 32 := Scalar.addi v822 v823
  v824.toNat
def k0_dev23 (d0 : Dev nD) : Nat :=
  let c0_i32_860 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_859 : BitVec 32 := 2#32
  let v867 : BitVec 32 := Scalar.muli v7 c2_i32_859
  let v868 : BitVec 32 := Scalar.addi c0_i32_860 v867
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_861 : BitVec 32 := 1#32
  let v869 : BitVec 32 := Scalar.muli v5 c1_i32_861
  let v870 : BitVec 32 := Scalar.addi v868 v869
  v870.toNat
def k0_dev24 (d0 : Dev nD) : Nat :=
  let c0_i32_907 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_906 : BitVec 32 := 2#32
  let v913 : BitVec 32 := Scalar.muli v7 c2_i32_906
  let v914 : BitVec 32 := Scalar.addi c0_i32_907 v913
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_908 : BitVec 32 := 1#32
  let v915 : BitVec 32 := Scalar.muli v5 c1_i32_908
  let v916 : BitVec 32 := Scalar.addi v914 v915
  v916.toNat
def k0_dev25 (d0 : Dev nD) : Nat :=
  let c0_i32_954 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_953 : BitVec 32 := 2#32
  let v959 : BitVec 32 := Scalar.muli v7 c2_i32_953
  let v960 : BitVec 32 := Scalar.addi c0_i32_954 v959
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_955 : BitVec 32 := 1#32
  let v961 : BitVec 32 := Scalar.muli v5 c1_i32_955
  let v962 : BitVec 32 := Scalar.addi v960 v961
  v962.toNat
def k0_dev26 (d0 : Dev nD) : Nat :=
  let c0_i32_1001 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1000 : BitVec 32 := 2#32
  let v1005 : BitVec 32 := Scalar.muli v7 c2_i32_1000
  let v1006 : BitVec 32 := Scalar.addi c0_i32_1001 v1005
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1002 : BitVec 32 := 1#32
  let v1007 : BitVec 32 := Scalar.muli v5 c1_i32_1002
  let v1008 : BitVec 32 := Scalar.addi v1006 v1007
  v1008.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S512x512 : Shape := ⟨2, ![512, 512]⟩
abbrev S512x1024 : Shape := ⟨2, ![512, 1024]⟩
abbrev S1024x512 : Shape := ⟨2, ![1024, 512]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x1024, .f32⟩
  | .hbm, ⟨2, _⟩ => ⟨S1024x512, .f32⟩
  | .hbm, ⟨3, _⟩ => ⟨S512x1024, .f32⟩
  | .hbm, ⟨4, _⟩ => ⟨S1024x512, .f32⟩
  | .hbm, ⟨5, _⟩ => ⟨S512x1024, .f32⟩
  | .hbm, ⟨6, _⟩ => ⟨S1024x512, .f32⟩
  | .hbm, ⟨7, _⟩ => ⟨S512x1024, .f32⟩
  | .hbm, ⟨8, _⟩ => ⟨S_, .f32⟩
  | .hbm, ⟨9, _⟩ => ⟨S512x1024, .f32⟩
  | .hbm, ⟨10, _⟩ => ⟨S512x1024, .f32⟩
  | .hbm, ⟨11, _⟩ => ⟨S512x512, .f32⟩
  | .hbm, ⟨12, _⟩ => ⟨S512x1024, .f32⟩
  | .hbm, ⟨13, _⟩ => ⟨S_, .f32⟩
  | .hbm, ⟨14, _⟩ => ⟨S512x1024, .f32⟩
  | .hbm, ⟨15, _⟩ => ⟨S512x1024, .f32⟩
  | .hbm, ⟨16, _⟩ => ⟨S512x512, .f32⟩
  | .hbm, ⟨17, _⟩ => ⟨S512x1024, .f32⟩
  | .hbm, ⟨18, _⟩ => ⟨S_, .f32⟩
  | .hbm, ⟨19, _⟩ => ⟨S512x1024, .f32⟩
  | .hbm, ⟨20, _⟩ => ⟨S512x1024, .f32⟩
  | .hbm, ⟨21, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Program.lean ====
/-
# The kernel's program, by chunk and stage

The body sends each of the four row chunks through seven stages: product with `Win_k`, sum over the y axis, `relu`
and product with `Wout_k`, sum over the x axis, three times over, and the last sum. A stage waits for the transfer the
stage before it started (if any), computes, and starts its own (but for the last). The fragments below are one
program text each, over the link, the slot and the chunk; `body_eq` says the printed body is their composition.

There are two links. Link `false` carries the hidden activations to the device with the other y (512 columns wide),
link `true` the outputs to the device with the other x (256 columns). Layer `k`, chunk `c` uses slot `4k + c` of both.
-/
module

public import proofs.«01_k».proof.Proof.Gen.KernelIdeal
public import proofs.«01_k».proof.Proof.Gen.KernelIdeal.Skeleton

@[expose] public section

noncomputable section

namespace Cert.Mlp

open Cert.KernelIdeal Cert.KernelIdeal.Gen
open Idealize.ShloMosaic Idealize.SL.Sem

variable {F : FTy → Type} [FloatOps F]

/-! ## Shapes, buffers and semaphores of a link -/

/-- Columns a link carries. -/
abbrev wid (l : Bool) : ℕ := match l with | false => 512 | true => 256
/-- Twelve slots, four slots, one slot, and one slot without its leading axis. -/
abbrev sh12 (l : Bool) : Shape := ⟨3, ![12, 128, wid l]⟩
abbrev sh4 (l : Bool) : Shape := ⟨3, ![4, 128, wid l]⟩
abbrev sh1 (l : Bool) : Shape := ⟨3, ![1, 128, wid l]⟩
abbrev sh2 (l : Bool) : Shape := ⟨2, ![128, wid l]⟩

/-- The buffer a link sends from, the one it lands in, and the full-precision copy the sender keeps. -/
abbrev sendM (l : Bool) : Memref sig .tc .vmem (sh12 l) .bf16 :=
  match l with | false => Memref.whole cc0_scratch0 | true => Memref.whole cc0_scratch2
abbrev recvM (l : Bool) : Memref sig .tc .vmem (sh12 l) .bf16 :=
  match l with | false => Memref.whole cc0_scratch1 | true => Memref.whole cc0_scratch3
abbrev keepM (l : Bool) : Memref sig .tc .vmem (sh4 l) .f32 :=
  match l with | false => Memref.whole cc0_scratch4 | true => Memref.whole cc0_scratch5

theorem sendM_isWhole (l : Bool) : (sendM l).IsWhole := by cases l <;> exact Memref.isWhole_whole _
theorem recvM_isWhole (l : Bool) : (recvM l).IsWhole := by cases l <;> exact Memref.isWhole_whole _

/-- The semaphores of a link: send (`false`) and receive (`true`), one for each slot. -/
abbrev semArr (l v : Bool) : DmaSems sig S12 :=
  match l, v with
  | false, false => cc0_scratch6 | false, true => cc0_scratch7
  | true, false => cc0_scratch8 | true, true => cc0_scratch9

/-! ## Slots -/

theorem inb12 (l : Bool) (s : Fin 12) : ∀ a, (![s.val, 0, 0] : Fin 3 → Nat) a + (sh1 l).size a ≤ (sh12 l).size a := by
  revert l s; decide
theorem inb4 (l : Bool) (c : Fin 4) : ∀ a, (![c.val, 0, 0] : Fin 3 → Nat) a + (sh1 l).size a ≤ (sh4 l).size a := by
  revert l c; decide
theorem inbS (s : Fin 12) : ∀ a, (![s.val] : Fin 1 → Nat) a + S1.size a ≤ S12.size a := by
  revert s; decide
theorem inbRow (c : Fin 4) : ∀ a, (![128 * c.val, 0] : Fin 2 → Nat) a + S128x256.size a ≤ S512x256.size a := by
  revert c; decide

/-- Slot `s` of a link's buffers, chunk `c` of what the sender keeps, rows `128c …` of a block of 512 rows. -/
abbrev slot (l : Bool) (s : Fin 12) : Rect (sh12 l) := Rect.unit (s := sh12 l) ![s.val, 0, 0] (sh1 l).size (inb12 l s)
abbrev chunk (l : Bool) (c : Fin 4) : Rect (sh4 l) := Rect.unit (s := sh4 l) ![c.val, 0, 0] (sh1 l).size (inb4 l c)
abbrev rows (c : Fin 4) : Rect S512x256 := Rect.unit (s := S512x256) ![128 * c.val, 0] S128x256.size (inbRow c)

/-- Layer `k`, chunk `c` uses slot `4k + c`. -/
abbrev sl (k : Fin 3) (c : Fin 4) : Fin 12 := ⟨4 * k.val + c.val, by omega⟩

theorem sh1_pos (l : Bool) : 0 < (sh1 l).numel := by revert l; decide
theorem squeezes1 (l : Bool) : (sh1 l).Squeezes (sh2 l) := by revert l; decide
theorem casts21 (l : Bool) : (sh2 l).ShapeCasts (sh1 l) := by revert l; decide
theorem packed (l : Bool) (s : Fin 12) : (slot l s).PackedRows (EltTy.packing .bf16) := by revert l s; decide
theorem words (l : Bool) (s : Fin 12) : (slot l s).WholeWords (EltTy.packing .bf16) := by revert l s; decide

/-- A slot as a transfer names it. -/
abbrev sliceM {l : Bool} (M : Memref sig .tc .vmem (sh12 l) .bf16) (s : Fin 12) : Memref sig .tc .vmem (sh1 l) .bf16 :=
  M.slice (slot l s) (fun _ => rfl)
abbrev slotM {l : Bool} (M : Memref sig .tc .vmem (sh12 l) .bf16) (s : Fin 12) : Memref sig .tc .vmem (sh2 l) .bf16 :=
  (sliceM M s).squeeze (sh2 l) (squeezes1 l)
abbrev semAt (l v : Bool) (s : Fin 12) : DmaSem sig :=
  (((semArr l v).slice (Rect.unit (s := S12) ![s.val] S1.size (inbS s))).squeeze S_ squeezes_S1_S_).sem

theorem exactM {l : Bool} {M : Memref sig .tc .vmem (sh12 l) .bf16} (h : M.IsWhole) (s : Fin 12) : (slotM M s).view.WordExact :=
  (h.wordExact_slice rfl _ (words l s)).reshape _ _

/-- The runtime's barrier semaphore. -/
abbrev barS : Sem sig := (SemArray.scalar (sig.barrier 0 rfl) : Sems sig S_).sem

/-- The device at the other end of a link: the other y, the other x. -/
abbrev peer (l : Bool) (d : Dev nD) : Dev nD :=
  match l with | false => ⟨k0_dev1 d, k0_dev1_lt d⟩ | true => ⟨k0_dev2 d, k0_dev2_lt d⟩

/-! ## Inputs -/

abbrev xM : Memref sig .tc .vmem S512x256 .f32 := Memref.whole cc0_stg0_0
abbrev outM : Memref sig .tc .vmem S512x256 .f32 := Memref.whole cc0_stg7_0
abbrev winM (k : Fin 3) : Memref sig .tc .vmem S256x512 .f32 :=
  match k with | 0 => Memref.whole cc0_stg1_0 | 1 => Memref.whole cc0_stg3_0 | 2 => Memref.whole cc0_stg5_0
abbrev woutM (k : Fin 3) : Memref sig .tc .vmem S512x256 .f32 :=
  match k with | 0 => Memref.whole cc0_stg2_0 | 1 => Memref.whole cc0_stg4_0 | 2 => Memref.whole cc0_stg6_0

abbrev allIn : Rect S256x512 := Rect.unit (s := S256x512) ![0, 0] S256x512.size inb_S256x512_S256x512_0_0
abbrev allOut : Rect S512x256 := Rect.unit (s := S512x256) ![0, 0] S512x256.size inb_S512x256_S512x256_0_0

/-! ## What a stage computes -/

/-- A chunk of activations times a block of `Win`. -/
def prodIn (x : FVec F S128x256 .f32) (w : Vec F S256x512 .f32) : FVec F S128x512 .f32 :=
  matmul dot_S128x256_S256x512_S128x512_1_0_0_1_n_n none x (shapeCast S256x512 w shapeCasts_S256x512_S256x512)
    (constant S128x512 .f32 0x00000000#32)

/-- A chunk of hidden activations times a block of `Wout`. -/
def prodOut (h : FVec F S128x512 .f32) (w : Vec F S512x256 .f32) : FVec F S128x256 .f32 :=
  matmul dot_S128x512_S512x256_S128x256_1_0_0_1_n_n none h (shapeCast S512x256 w shapeCasts_S512x256_S512x256)
    (constant S128x256 .f32 0x00000000#32)

/-- A slot's contents from a chunk: kept in full, sent in half precision. -/
def kept (l : Bool) (y : FVec F (sh2 l) .f32) : FVec F (sh1 l) .f32 := shapeCast (sh1 l) y (casts21 l)
def sent (l : Bool) (y : FVec F (sh2 l) .f32) : FVec F (sh1 l) .bf16 :=
  shapeCast (sh1 l) (truncf .bf16 y bitsLt_bf16_f32) (casts21 l)

/-- What this device kept plus what the other one sent: the hidden sum, and the output sum. -/
def sumIn (p : Vec F S1x128x512 .f32) (r : Vec F S1x128x512 .bf16) : FVec F S128x512 .f32 :=
  addf (shapeCast S128x512 p shapeCasts_S1x128x512_S128x512)
    (extf .f32 (shapeCast S128x512 r shapeCasts_S1x128x512_S128x512) bitsLt_bf16_f32)
def sumOut (p : Vec F S1x128x256 .f32) (r : Vec F S1x128x256 .bf16) : FVec F S128x256 .f32 :=
  addf (shapeCast S128x256 p shapeCasts_S1x128x256_S128x256)
    (extf .f32 (shapeCast S128x256 r shapeCasts_S1x128x256_S128x256) bitsLt_bf16_f32)

/-- `relu`. -/
def relu (h : FVec F S128x512 .f32) : FVec F S128x512 .f32 :=
  maximumf h (broadcast S128x512 (Scalar.ofBits .f32 0x00000000#32 : F .f32))

/-! ## The fragments -/

local notation "ℙ" => Prog (TpuEff nD τ sig (Elt F) Λ₀ Proc.tc)

/-- Tell both peers this device is here, and wait for both. -/
def handshake (d : Dev nD) : ℙ PUnit := do
  semSignalWord (peer false d) barS 1#32
  semSignalWord (peer true d) barS 1#32
  semWaitWord barS 2#32

/-- Keep a chunk, and start its transfer over link `l`. -/
def publish (l : Bool) (d : Dev nD) (k : Fin 3) (c : Fin 4) (y : FVec F (sh2 l) .f32) : ℙ PUnit := do
  let _ ← Prog.lift (.load (keepM l) (chunk l c).toLoadRect (View.loadsAt_vmem (sh1_pos l)))
  Prog.lift (.store (keepM l) (chunk l c) (kept l y) Finset.univ (View.stores_vmem_bits_univ (sh1_pos l) rfl) (.inl rfl))
  let _ ← Prog.lift (.load (sendM l) (slot l (sl k c)).toLoadRect (View.loadsAt_vmem (sh1_pos l)))
  Prog.lift (.store (sendM l) (slot l (sl k c)) (sent l y) Finset.univ
    (View.stores_vmem (sh1_pos l) ((sendM_isWhole l).storeExact_slice rfl _ (packed l (sl k c))) (fun _ => rfl)) (.inl rfl))
  Prog.lift (.enqueueDma (slotM (sendM l) (sl k c))
    (.remote (Dev.tc (peer l d)) (slotM (recvM l) (sl k c)) (.dma (semAt l false (sl k c))) (by cases l <;> rfl)) (.dma (semAt l true (sl k c)))
    (exactM (sendM_isWhole l) _) (exactM (recvM_isWhole l) _) ⟨⟨rfl, Or.inl rfl⟩, trivial⟩)

/-- Wait for the transfer out of this device's slot, then for the one into it. -/
def await (l : Bool) (k : Fin 3) (c : Fin 4) : ℙ PUnit := do
  Prog.lift (.waitDma2 (semAt l false (sl k c)) (slotM (recvM l) (sl k c)) (slotM (sendM l) (sl k c))
    (exactM (recvM_isWhole l) _) (exactM (sendM_isWhole l) _))
  Prog.lift (.waitDma2 (semAt l true (sl k c)) (slotM (sendM l) (sl k c)) (slotM (recvM l) (sl k c))
    (exactM (sendM_isWhole l) _) (exactM (recvM_isWhole l) _))

/-- What this device kept of a chunk, and what landed for it. -/
def pair (l : Bool) (k : Fin 3) (c : Fin 4) : ℙ (Vec F (sh1 l) .f32 × Vec F (sh1 l) .bf16) := do
  let p ← Prog.lift (.load (keepM l) (chunk l c).toLoadRect (View.loadsAt_vmem (sh1_pos l)))
  let r ← Prog.lift (.load (recvM l) (slot l (sl k c)).toLoadRect (View.loadsAt_vmem (sh1_pos l)))
  pure (p, r)

/-- The first stage: rows of `x` times `Win_0`. -/
def first (d : Dev nD) (c : Fin 4) : ℙ PUnit := do
  let x ← Prog.lift (.load xM (rows c).toLoadRect (View.loadsAt_vmem h_S128x256))
  let w ← Prog.lift (.load (winM 0) allIn.toLoadRect (View.loadsAt_vmem h_S256x512))
  publish false d 0 c (prodIn (shapeCast S128x256 x shapeCasts_S128x256_S128x256) w)

/-- The stage into layer `k`'s hidden activations, from layer `j`'s output. -/
def into (d : Dev nD) (j k : Fin 3) (c : Fin 4) : ℙ PUnit := do
  await true j c
  let pr ← pair true j c
  let w ← Prog.lift (.load (winM k) allIn.toLoadRect (View.loadsAt_vmem h_S256x512))
  publish false d k c (prodIn (sumOut pr.1 pr.2) w)

/-- The stage out of layer `k`'s hidden activations. -/
def outOf (d : Dev nD) (k : Fin 3) (c : Fin 4) : ℙ PUnit := do
  await false k c
  let pr ← pair false k c
  let w ← Prog.lift (.load (woutM k) allOut.toLoadRect (View.loadsAt_vmem h_S512x256))
  publish true d k c (prodOut (relu (sumIn pr.1 pr.2)) w)

/-- The last stage: layer 2's output, stored. -/
def last (c : Fin 4) : ℙ PUnit := do
  await true 2 c
  let pr ← pair true 2 c
  let _ ← Prog.lift (.load outM (rows c).toLoadRect (View.loadsAt_vmem h_S128x256))
  Prog.lift (.store outM (rows c) (sumOut pr.1 pr.2) Finset.univ (View.stores_vmem_bits_univ h_S128x256 rfl) (.inl rfl))

/-- Stage `n` of chunk `c`. -/
def stage (d : Dev nD) (c : Fin 4) (n : Fin 7) : ℙ PUnit :=
  match n with
  | 0 => first d c | 1 => outOf d 0 c | 2 => into d 0 1 c | 3 => outOf d 1 c | 4 => into d 1 2 c | 5 => outOf d 2 c | 6 => last c

/-- The stages of a list, in its order. -/
def stages (d : Dev nD) : List (Fin 4 × Fin 7) → ℙ PUnit
  | [] => pure ⟨⟩
  | t :: ts => stage d t.1 t.2 >>= fun _ => stages d ts

/-- The order the kernel takes them in. -/
abbrev order : List (Fin 4 × Fin 7) :=
  [(0, 0), (1, 0), (2, 0), (3, 0),
   (0, 1), (1, 1), (0, 2), (2, 1), (1, 2), (3, 1), (2, 2), (3, 2),
   (0, 3), (1, 3), (0, 4), (2, 3), (1, 4), (3, 3), (2, 4), (3, 4),
   (0, 5), (1, 5), (2, 5), (3, 5),
   (0, 6), (1, 6), (2, 6), (3, 6)]

/-- The kernel's body at its buffers. -/
abbrev body : ℙ PUnit :=
  cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_stg6_0) (Memref.isWhole_whole _) (Memref.whole cc0_stg7_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    cc0_scratch6 cc0_scratch7 cc0_scratch8 cc0_scratch9

set_option maxRecDepth 65536 in
/-- The printed body is the handshake and the stages in that order. -/
theorem body_eq : (body : ℙ PUnit) = (Prog.lift .deviceId >>= fun d => handshake d >>= fun _ => stages d order) := rfl

end Cert.Mlp

end
-- ==== Proof.Proto.lean ====
/-
# The protocol

A device is joined to two others: link `false` to the one with the other y, link `true` to the one with the other x.
Both links are symmetric, `peer l (peer l d) = d`. A transfer is named by its link `l`, layer `k` and chunk `c`; it has
a slot of its own in the sender's send buffer and in the receiver's landing buffer, and a send and a receive semaphore
of its own, so each slot is written by one transfer and each of those semaphores is waited for once.

* Barrier cell: two units, one from each peer. The unit over link `l` hands over the twelve landing slots of that link
  on the device that signals, which its peer may then write.
* Send cell of a transfer: its credit, with the send slot given back.
* Receive cell of a transfer: its credit, with the landing slot holding what the peer computed for that layer and chunk.

Waiting is ordered by levels: barrier 1; receive cell of a transfer 2 plus four times the stage that starts it plus the
chunk; send cells 0. A stage waits for the transfer its chunk's last stage started, and what a device still has to
start then is always higher.
-/
module

public import proofs.«01_k».proof.Proof.Program
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds library's ghost state for this protocol, beside the pipeline library's copy. -/
abbrev UB : Type := URounds (GSem nD τ sig) Bool
/-- Both together. -/
abbrev UU : Type := UR sig nD τ × UB

local notation "𝕄" => MT nD τ sig Unit (Elt F) ℕ UU ℕ

/-- Where each of the two lies. -/
abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The mesh -/

/-- Both links are symmetric. -/
theorem peer_peer (l : Bool) (d : Dev nD) : peer l (peer l d) = d := by revert l d; decide

/-- Going over a link and back. -/
def across (l : Bool) : Dev nD ≃ Dev nD := ⟨peer l, peer l, peer_peer l, peer_peer l⟩

/-! ## What each device computes -/

/-- The blocks each device is given: its block of `x`, and of the three layers' `Win` and `Wout`. -/
structure Blocks (F : FTy → Type) where
  x : Dev nD → Vec F S512x256 .f32
  win : Fin 3 → Dev nD → Vec F S256x512 .f32
  wout : Fin 3 → Dev nD → Vec F S512x256 .f32

section Values
variable (I : Blocks F)

/-- A layer's partial hidden activations on device `d`, from the activations `a` it starts with; -/
def phOf (k : Fin 3) (a : Dev nD → Fin 4 → FVec F S128x256 .f32) (d : Dev nD) (c : Fin 4) : FVec F S128x512 .f32 :=
  prodIn (a d c) (I.win k d)
/-- its partial output; -/
def poOf (k : Fin 3) (a : Dev nD → Fin 4 → FVec F S128x256 .f32) (d : Dev nD) (c : Fin 4) : FVec F S128x256 .f32 :=
  prodOut (relu (sumIn (kept false (phOf I k a d c)) (sent false (phOf I k a (peer false d) c)))) (I.wout k d)
/-- and the activations it ends with. -/
def outOfLayer (k : Fin 3) (a : Dev nD → Fin 4 → FVec F S128x256 .f32) (d : Dev nD) (c : Fin 4) : FVec F S128x256 .f32 :=
  sumOut (kept true (poOf I k a d c)) (sent true (poOf I k a (peer true d) c))

/-- The activations at the start: chunk `c` of the block of `x`. -/
def act0 (d : Dev nD) (c : Fin 4) : FVec F S128x256 .f32 :=
  shapeCast S128x256 (fun y => I.x d ((rows c).emb y) : Vec F S128x256 .f32) shapeCasts_S128x256_S128x256

/-- The activations each layer starts with, and the result. -/
def actIn (k : Fin 3) : Dev nD → Fin 4 → FVec F S128x256 .f32 :=
  match k with
  | 0 => act0 I
  | 1 => outOfLayer I 0 (act0 I)
  | 2 => outOfLayer I 1 (outOfLayer I 0 (act0 I))
def actOut : Dev nD → Fin 4 → FVec F S128x256 .f32 := outOfLayer I 2 (actIn I 2)

/-- What device `d` sends over link `l` in layer `k`, before it is rounded: its partial hidden activations, its partial
    output. -/
def msg (l : Bool) (k : Fin 3) (d : Dev nD) (c : Fin 4) : FVec F (sh2 l) .f32 :=
  match l with
  | false => phOf I k (actIn I k) d c
  | true => poOf I k (actIn I k) d c

end Values

/-! ## Cells -/

/-- A transfer's cells: link, send (`false`) or receive, layer, chunk; and the barrier cell, `none`. -/
abbrev CJ : Type := Bool × Bool × Fin 3 × Fin 4
/-- A device's cells: the barrier's, and those of the transfers. -/
abbrev CI : Type := Option CJ

abbrev jsem (j : CJ) : SemLoc sig := .dma (semAt j.1 j.2.1 (sl j.2.2.1 j.2.2.2))
abbrev csem (i : CI) : SemLoc sig := match i with | none => .reg barS | some j => jsem j
abbrev cell (d : Dev nD) (i : CI) : GSem nD τ sig := ((d : Thread nD τ), csem i)
abbrev sendC (d : Dev nD) (l : Bool) (k : Fin 3) (c : Fin 4) : GSem nD τ sig := cell d (some (l, false, k, c))
abbrev recvC (d : Dev nD) (l : Bool) (k : Fin 3) (c : Fin 4) : GSem nD τ sig := cell d (some (l, true, k, c))

/-- The number of a transfer's semaphore in the signature's pool. -/
theorem jsem_num (j : CJ) : (semAt j.1 j.2.1 (sl j.2.2.1 j.2.2.2)).val
    = 8 + 12 * (2 * j.1.toNat + j.2.1.toNat) + 4 * j.2.2.1.val + j.2.2.2.val := by
  obtain ⟨l, v, k, c⟩ := j
  revert l v k c; decide

/-- Different transfers, and their two ends, have different semaphores; -/
theorem jsem_injective : Function.Injective jsem := by
  rintro ⟨l, v, k, c⟩ ⟨l', v', k', c'⟩ h
  have h1 := congrArg Fin.val (SemLoc.dma.inj h)
  rw [jsem_num, jsem_num] at h1
  have hk := k.isLt; have hk' := k'.isLt; have hc := c.isLt; have hc' := c'.isLt
  have : l = l' ∧ v = v' ∧ k.val = k'.val ∧ c.val = c'.val := by
    cases l <;> cases v <;> cases l' <;> cases v' <;> simp at h1 ⊢ <;> omega
  obtain ⟨rfl, rfl, hk, hc⟩ := this
  rw [Fin.ext hk, Fin.ext hc]

/-- the barrier is none of them; -/
theorem csem_injective : Function.Injective csem := by
  rintro (_ | j) (_ | j') h
  · rfl
  · cases h
  · cases h
  · exact congrArg some (jsem_injective h)

/-- so cells are told apart by device and semaphore. -/
theorem cell_injective : Function.Injective (fun p : Dev nD × CI => cell p.1 p.2) := by
  rintro ⟨d, i⟩ ⟨d', i'⟩ h
  have h1 : d = d' := congrArg (fun g : GSem nD τ sig => g.1.1) h
  have h2 : i = i' := csem_injective (congrArg Prod.snd h)
  rw [h1, h2]

theorem cell_eq_iff {d d' : Dev nD} {i i' : CI} : cell d i = cell d' i' ↔ d = d' ∧ i = i' :=
  ⟨fun h => Prod.mk.inj (cell_injective (a₁ := (d, i)) (a₂ := (d', i')) h), fun ⟨h, h'⟩ => by rw [h, h']⟩

/-- Which of the protocol's cells a semaphore is, if any. -/
def dec (s : SemLoc sig) : Option CI := Function.partialInv csem s
/-- A cell is read back from its semaphore. -/
theorem dec_csem (i : CI) : dec (csem i) = some i := Function.partialInv_left csem_injective i

/-- The credit of a transfer over a link. -/
abbrev amt (l : Bool) : ℕ := (slotM (sendM l) 0).view.dmaCredit
/-- A transfer's credit, the same at both ends. -/
theorem amt_pos (l : Bool) : 0 < amt l := View.dmaCredit_pos _ (by revert l; decide)
theorem amt_send (l : Bool) (s : Fin 12) : (slotM (sendM l) s).view.dmaCredit = amt l := by cases l <;> rfl
theorem amt_recv (l : Bool) (s : Fin 12) : (slotM (recvM l) s).view.dmaCredit = amt l := by cases l <;> rfl

/-! ## Contents -/

/-- A rectangle of a buffer on device `d`, owned at given values. -/
def part {sh : Shape} {e : EltTy} (d : Dev nD) (M : Memref sig .tc .vmem sh e) (r : Rect sh) (hr : ∀ a, r.stride a = 1)
    (X : r.shape.Idx → Elt F e) : sProp 𝕄 :=
  owns (d : Thread nD τ) (M.slice r hr) fullShare X

instance part_storable {sh : Shape} {e : EltTy} (d : Dev nD) (M : Memref sig .tc .vmem sh e) (r : Rect sh) (hr : ∀ a, r.stride a = 1)
    (X : r.shape.Idx → Elt F e) : BI.Storable (upEmb : UEmb _ 𝕄) (part (F := F) d M r hr X) := by unfold part; infer_instance

/-- A send slot, a landing slot, a chunk of what the sender keeps, rows of the result. -/
abbrev sendSlot (d : Dev nD) (l : Bool) (k : Fin 3) (c : Fin 4) (X : (sh1 l).Idx → Elt F .bf16) : sProp 𝕄 :=
  part d (sendM l) (slot l (sl k c)) (fun _ => rfl) X
abbrev recvSlot (d : Dev nD) (l : Bool) (k : Fin 3) (c : Fin 4) (X : (sh1 l).Idx → Elt F .bf16) : sProp 𝕄 :=
  part d (recvM l) (slot l (sl k c)) (fun _ => rfl) X
abbrev keepPart (d : Dev nD) (l : Bool) (c : Fin 4) (X : (sh1 l).Idx → Elt F .f32) : sProp 𝕄 :=
  part d (keepM l) (chunk l c) (fun _ => rfl) X
abbrev outRows (d : Dev nD) (c : Fin 4) (X : S128x256.Idx → Elt F .f32) : sProp 𝕄 :=
  part d outM (rows c) (fun _ => rfl) X

/-- A slot at contents nobody states. -/
abbrev anySend (d : Dev nD) (l : Bool) (k : Fin 3) (c : Fin 4) : sProp 𝕄 := iprop(∃ X, sendSlot (F := F) d l k c X)
abbrev anyRecv (d : Dev nD) (l : Bool) (k : Fin 3) (c : Fin 4) : sProp 𝕄 := iprop(∃ X, recvSlot (F := F) d l k c X)

/-- A device's landing slots of a link. -/
def landing (d : Dev nD) (l : Bool) : sProp 𝕄 :=
  bigSep Finset.univ fun c : Fin 4 => bigSep Finset.univ fun k : Fin 3 => anyRecv (F := F) d l k c

instance landing_storable (d : Dev nD) (l : Bool) : BI.Storable (upEmb : UEmb _ 𝕄) (landing (F := F) d l) := by
  unfold landing; infer_instance

/-! ## The schedule -/

section Sched
variable (I : Blocks F)

/-- What a cell's duty hands the device that waits: -/
def pay (d : Dev nD) (i : CI) (b : Bool) : sProp 𝕄 :=
  match i with
  | none => landing (F := F) (peer b d) b
  | some (l, false, k, c) => anySend (F := F) d l k c
  | some (l, true, k, c) => recvSlot d l k c (sent l (msg I l k (peer l d) c))

instance pay_storable (d : Dev nD) (i : CI) (b : Bool) : BI.Storable (upEmb : UEmb _ 𝕄) (pay I d i b) := by
  rcases i with _ | ⟨l, _ | _, k, c⟩ <;> unfold pay <;> infer_instance

/-- One round: the barrier's two units, each transfer's two credits. -/
def rd : Rounds.Schedule (GSem nD τ sig) Bool 𝕄 where
  duties g r := if r = 0 ∧ g.1.2 = .tc then (match dec g.2 with | none => ∅ | some none => Finset.univ | some (some _) => {false}) else ∅
  unitless _ := False
  amount g _ _ := match dec g.2 with | some (some j) => amt j.1 | _ => 1
  payload g _ b := match dec g.2 with | some i => pay I g.1.1 i b | none => iprop(emp)
  amount_pos g _ _ _ := by
    rcases dec g.2 with _ | _ | j
    · exact Nat.one_pos
    · exact Nat.one_pos
    · exact amt_pos j.1

instance rd_storable (g : GSem nD τ sig) (r : ℕ) (b : Bool) : BI.Storable (upEmb : UEmb _ 𝕄) ((rd I).payload g r b) := by
  show BI.Storable upEmb (match dec g.2 with | some i => pay I g.1.1 i b | none => iprop(emp))
  split <;> infer_instance

variable (d : Dev nD) (j : CJ)

/-- The schedule's tables: duties, -/
theorem duties_bar : (rd I).duties (cell d none) 0 = Finset.univ := by
  dsimp only [rd]; rw [if_pos ⟨rfl, rfl⟩, dec_csem none]
theorem duties_xfer : (rd I).duties (cell d (some j)) 0 = {false} := by
  dsimp only [rd]; rw [if_pos ⟨rfl, rfl⟩, dec_csem (some j)]
theorem duties_later (g : GSem nD τ sig) : ∀ r, 1 ≤ r → (rd I).duties g r = ∅ :=
  fun r hr => if_neg fun h => by omega

/-- amounts, -/
theorem amount_bar (b : Bool) : (rd I).amount (cell d none) 0 b = 1 := by
  dsimp only [rd]; rw [dec_csem none]
theorem amount_xfer (b : Bool) : (rd I).amount (cell d (some j)) 0 b = amt j.1 := by
  dsimp only [rd]; rw [dec_csem (some j)]
/-- payloads, -/
theorem payload_eq (i : CI) (b : Bool) : (rd I).payload (cell d i) 0 b = pay I d i b := by
  dsimp only [rd]; rw [dec_csem i]

/-- what a round comes to, -/
theorem expect_bar : (rd I).expect (cell d none) 0 = 2 := by
  unfold Schedule.expect Schedule.amountOf
  rw [duties_bar, Finset.sum_congr rfl fun b _ => amount_bar I d b]; rfl
theorem expect_xfer : (rd I).expect (cell d (some j)) 0 = amt j.1 := by
  unfold Schedule.expect Schedule.amountOf
  rw [duties_xfer, Finset.sum_singleton, amount_xfer]

/-- and what a wait for the whole of it hands over. -/
theorem rest_bar : bigSep ((rd I).duties (cell d none) 0 \ ∅) (fun b => (rd I).payload (cell d none) 0 b)
    = bigSep Finset.univ fun b : Bool => pay I d none b := by
  rw [Finset.sdiff_empty, duties_bar]; exact bigSep_congr fun b _ => payload_eq I d none b
theorem rest_xfer : bigSep ((rd I).duties (cell d (some j)) 0 \ ∅) (fun b => (rd I).payload (cell d (some j)) 0 b)
    = pay I d (some j) false := by
  rw [Finset.sdiff_empty, duties_xfer, bigSep_singleton, payload_eq]

end Sched

/-! ## What a device owes, and levels -/

/-- The credit owed to the peer's receive cell by a transfer not yet started. -/
abbrev tallyOf (d : Dev nD) (l : Bool) (k : Fin 3) (c : Fin 4) : CellTallies nD τ sig Unit :=
  tallyAt (recvC (peer l d) l k c) () (amt l)

/-- The transfer stage `n` starts, if it starts one. -/
abbrev starts (n : Fin 7) : Option (Bool × Fin 3) :=
  match n with
  | 0 => some (false, 0) | 1 => some (true, 0) | 2 => some (false, 1) | 3 => some (true, 1) | 4 => some (false, 2) | 5 => some (true, 2)
  | 6 => none

/-- What is owed for a stage to come, -/
def due (d : Dev nD) (t : Fin 4 × Fin 7) : CellTallies nD τ sig Unit :=
  match starts t.2 with | some (l, k) => tallyOf d l k t.1 | none => 0
/-- and for a list of them. -/
def owed (d : Dev nD) : List (Fin 4 × Fin 7) → CellTallies nD τ sig Unit
  | [] => 0
  | t :: ts => due d t + owed d ts

/-- What a device owes at launch: a unit to each peer's barrier, and all its transfers. -/
def O₀ (d : Dev nD) (ts : List (Fin 4 × Fin 7)) : CellTallies nD τ sig Unit :=
  tallyAt (cell (peer false d) none) () 1 + (tallyAt (cell (peer true d) none) () 1 + owed d ts)

/-- The place of a transfer among its chunk's six. -/
abbrev ord (l : Bool) (k : Fin 3) : ℕ := 2 * k.val + l.toNat

/-- One level for every cell of a TensorCore: the barrier 1, receive cells by stage and chunk, all else 0. -/
def L (g : GSem nD τ sig) : Finset Unit := if g.1.2 = .tc then {()} else ∅
def lv (g : GSem nD τ sig) (_ : Unit) : ℕ :=
  match dec g.2 with
  | none => 0
  | some none => 1
  | some (some (l, v, k, c)) => if v then 2 + 4 * ord l k + c.val else 0

theorem L_of_ne (g : GSem nD τ sig) (h : g.1.2 ≠ .tc) : L g = ∅ := if_neg h
theorem L_tc (d : Dev nD) (sm : SemLoc sig) : L ((d : Thread nD τ), sm) = {()} := if_pos rfl
/-- The levels, read. -/
theorem lv_bar (d : Dev nD) (u : Unit) : lv (cell d none) u = 1 := by unfold lv; rw [dec_csem none]
theorem lv_recv (d : Dev nD) (l : Bool) (k : Fin 3) (c : Fin 4) (u : Unit) : lv (recvC d l k c) u = 2 + 4 * ord l k + c.val := by
  unfold lv; rw [dec_csem (some (l, true, k, c))]; exact if_pos rfl
theorem lv_send (d : Dev nD) (l : Bool) (k : Fin 3) (c : Fin 4) (u : Unit) : lv (sendC d l k c) u = 0 := by
  unfold lv; rw [dec_csem (some (l, false, k, c))]; exact if_neg (by decide)

/-- A stage starts the transfer that names it. -/
theorem starts_ord (n : Fin 7) (l : Bool) (k : Fin 3) (h : starts n = some (l, k)) : ord l k = n.val := by
  revert n l k; decide

/-- A level below all the stages of a list that start a transfer. -/
abbrev Below (b : ℕ) (ts : List (Fin 4 × Fin 7)) : Prop := ∀ t ∈ ts, t.2 ≠ 6 → b < 2 + 4 * t.2.val + t.1.val

/-- What is owed is owed to the cells of transfers still to be started. -/
theorem owed_pos {d : Dev nD} {ts : List (Fin 4 × Fin 7)} {g : GSem nD τ sig} {u : Unit} (h : 0 < owed d ts g u) :
    ∃ t ∈ ts, ∃ l k, starts t.2 = some (l, k) ∧ g = recvC (peer l d) l k t.1 := by
  induction ts with
  | nil => exact absurd h (Nat.lt_irrefl 0)
  | cons t ts ih =>
    unfold owed at h
    rw [Pi.add_apply, Finsupp.add_apply] at h
    rcases Nat.eq_zero_or_pos (owed d ts g u) with h0 | h0
    · rw [h0, Nat.add_zero] at h
      unfold due at h
      rcases hs : starts t.2 with _ | ⟨l, k⟩
      · rw [hs] at h; exact absurd h (Nat.lt_irrefl 0)
      · rw [hs] at h
        refine ⟨t, List.mem_cons_self, l, k, hs, ?_⟩
        dsimp only at h
        rw [tallyAt_apply] at h
        by_contra hg
        rw [if_neg fun h' => hg h'.1] at h
        exact Nat.lt_irrefl 0 h
    · obtain ⟨t', ht', l, k, hs, hg⟩ := ih h0
      exact ⟨t', List.mem_cons_of_mem _ ht', l, k, hs, hg⟩

/-- A device may wait at a cell whose level is below everything it has still to start. -/
theorem mayWait (d : Dev nD) (sm : SemLoc sig) (ts : List (Fin 4 × Fin 7)) (hb : Below (lv ((d : Thread nD τ), sm) ()) ts) :
    (levAts L lv : sProp 𝕄) ⊢ MayWait (d : Thread nD τ) sm () (owed d ts) :=
  MayOwe.of_cut (L := L) (lev := lv) (lv ((d : Thread nD τ), sm) ())
    (fun p hp => by rw [Finset.mem_singleton.mp hp, L_tc]; exact Finset.mem_singleton_self _)
    (fun g u hg => by
      obtain ⟨t, -, l, k, -, rfl⟩ := owed_pos hg
      rw [L_tc]; exact Finset.mem_singleton_self _)
    (fun p hp => by rw [Finset.mem_singleton.mp hp])
    (fun g u hg => by
      obtain ⟨t, ht, l, k, hs, rfl⟩ := owed_pos hg
      rw [lv_recv, starts_ord t.2 l k hs]
      exact hb t ht fun h6 => by rw [h6] at hs; cases hs)

end Cert.Mlp

end
-- ==== Proof.Steps.lean ====
/-
# One rule for each thing a stage does

Loads, stores, the transfer and the two waits, each stated once for a rectangle, or for a link, layer and chunk.
-/
module

public import proofs.«01_k».proof.Proof.Proto

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "ℙ" => Prog (TpuEff nD τ sig (Elt F) Λ₀ Proc.tc)

/-- What must hold before `p` runs on device `d`, for `Q` after. -/
abbrev wpd {α : Type} (d : Dev nD) (p : ℙ α) (Q : α → sProp 𝕄) : sProp 𝕄 :=
  wp frame (wpE (defs₀ (F := F)) 𝒱₀ (d : Thread nD τ) none) Set.univ p Q

/-! ## Loads and stores -/

section Access
variable {sh : Shape} {e : EltTy} {α : Type} (d : Dev nD) (M : Memref sig .tc .vmem sh e) (r : Rect sh)

/-- A load of a rectangle that is held; -/
theorem wp_load_part {hr : ∀ a, r.stride a = 1} {X : r.shape.Idx → Elt F e} {hl : M.view.LoadsAt r.toLoadRect}
    {k : (r.shape.Idx → Elt F e) → ℙ α} {Q : α → sProp 𝕄} :
    part d M r hr X ⊢ iprop((part d M r hr X -∗ wpd d (k X) Q) -∗ wpd d (.op (.load M r.toLoadRect hl) k) Q) := by
  unfold part owns
  iintro ⟨%f, %hf, H⟩ Hk
  iapply (wp_load_rect 𝒱₀ (d : Thread nD τ) none Set.univ (m := M) (r := r) (hl := hl) (k := k)
    (show (M.access r).set ⊆ (M.slice r hr).view.set from Finset.Subset.refl _)) $$ H
  iintro H
  rw [show (M.access r : View sig .tc _ _ _).read (Elt F) f = X from hf]
  iapply Hk
  iexists f
  isplitr; · ipureintro; exact hf
  iexact H

/-- a store into one; -/
theorem wp_store_part {hr : ∀ a, r.stride a = 1} {X w : r.shape.Idx → Elt F e} {hx : (M.access r : View sig .tc _ _ _).Stores Finset.univ}
    {hm : (Finset.univ : Finset r.shape.Idx) = Finset.univ ∨ ∀ a, r.stride a = 1} {k : PUnit → ℙ α} {Q : α → sProp 𝕄} :
    part d M r hr X ⊢ iprop((part d M r hr w -∗ wpd d (k ⟨⟩) Q) -∗ wpd d (.op (.store M r w Finset.univ hx hm) k) Q) := by
  unfold part owns
  iintro ⟨%f, %hf, H⟩ Hk
  iapply (wp_store 𝒱₀ (d : Thread nD τ) none Set.univ (m := M) (r := r) (w := w) (Mk := Finset.univ) (hx := hx) (hm := hm) (k := k)
    (show (M.access r).setOn Finset.univ ⊆ (M.slice r hr).view.set from Finset.Subset.refl _)) $$ H
  iintro H
  iapply Hk
  iexists _
  isplitr
  swap
  · iexact H
  · ipureintro
    exact View.read_write_univ (v := (M.access r : View sig .tc _ _ _)) _ _

/-- a load of a rectangle of a buffer that is held whole. -/
theorem wp_load_of {X : sh.Idx → Elt F e} {hl : M.view.LoadsAt r.toLoadRect}
    {k : (r.shape.Idx → Elt F e) → ℙ α} {Q : α → sProp 𝕄} :
    owns (d : Thread nD τ) M fullShare X
      ⊢ iprop((owns (d : Thread nD τ) M fullShare X -∗ wpd d (k fun y => X (r.emb y)) Q) -∗ wpd d (.op (.load M r.toLoadRect hl) k) Q) := by
  unfold owns
  iintro ⟨%f, %hf, H⟩ Hk
  iapply (wp_load_rect 𝒱₀ (d : Thread nD τ) none Set.univ (m := M) (r := r) (hl := hl) (k := k)
    (show (M.access r).set ⊆ M.view.set from View.set_slice_subset _ _)) $$ H
  iintro H
  rw [show (M.access r : View sig .tc _ _ _).read (Elt F) f = fun y => X (r.emb y) from by rw [← hf]; rfl]
  iapply Hk
  iexists f
  isplitr; · ipureintro; exact hf
  iexact H

end Access

/-- A load of a whole block of `Win`, or of `Wout`, is the block. -/
theorem allIn_emb {α : Type} (X : S256x512.Idx → α) : (fun y => X (allIn.emb y)) = X := by
  funext y
  refine congrArg X (funext fun a => Fin.ext ?_)
  rw [Rect.emb_apply]
  fin_cases a <;> simp [Rect.unit]
theorem allOut_emb {α : Type} (X : S512x256.Idx → α) : (fun y => X (allOut.emb y)) = X := by
  funext y
  refine congrArg X (funext fun a => Fin.ext ?_)
  rw [Rect.emb_apply]
  fin_cases a <;> simp [Rect.unit]

/-! ## What every device knows -/

section Proto
variable (I : Blocks F)

/-- Every cell's invariant, that every cell has reached its round, and the levels. -/
def ctx (K : Dev nD × CI → ℕ) : sProp 𝕄 :=
  iprop((bigSep Finset.univ fun p : Dev nD × CI => cellInv ER (rd I) (K p) (cell p.1 p.2))
    ∗ (bigSep Finset.univ fun p : Dev nD × CI => reached ER (cell p.1 p.2) 0) ∗ levAts L lv)

instance ctx_persistent (K : Dev nD × CI → ℕ) : BI.Persistent (ctx I K) := by unfold ctx; infer_instance

/-- Out of the context: a cell's invariant, -/
theorem ctx_inv (K : Dev nD × CI → ℕ) (d : Dev nD) (i : CI) : ctx I K ⊢ cellInv ER (rd I) (K (d, i)) (cell d i) := by
  unfold ctx
  iintro ⟨H, -, -⟩
  iapply (show _ ⊢ cellInv ER (rd I) (K (d, i)) (cell d i) from bigSep_elim (Finset.mem_univ (d, i))) $$ H
/-- that its round is reached, -/
theorem ctx_reached (K : Dev nD × CI → ℕ) (d : Dev nD) (i : CI) : ctx I K ⊢ reached ER (cell d i) 0 := by
  unfold ctx
  iintro ⟨-, H, -⟩
  iapply (show _ ⊢ (reached ER (cell d i) 0 : sProp 𝕄) from
    bigSep_elim (Φ := fun p : Dev nD × CI => reached ER (cell p.1 p.2) 0) (Finset.mem_univ (d, i))) $$ H
/-- and that it may be waited for when everything still owed is above it. -/
theorem ctx_mayWait (K : Dev nD × CI → ℕ) (d : Dev nD) (i : CI) (ts : List (Fin 4 × Fin 7)) (hb : Below (lv (cell d i) ()) ts) :
    ctx I K ⊢ MayWait (d : Thread nD τ) (csem i) () (owed d ts) := by
  unfold ctx
  iintro ⟨-, -, H⟩
  iapply (mayWait d (csem i) ts hb) $$ H

/-- What a device still owes, whatever it has waited for. -/
def owing (d : Dev nD) (O : CellTallies nD τ sig Unit) : sProp 𝕄 := iprop(∃ W, owes (d : Thread nD τ) O W)

/-! ## The transfer -/

/-- A slot, and the slot as a transfer names it (its leading axis dropped), cover the same elements. -/
theorem slot_pts {l : Bool} (d : Dev nD) (M : Memref sig .tc .vmem (sh12 l) .bf16) (s : Fin 12) (f : Buf (Elt F) (M.view.loc (d : Thread nD τ))) :
    ((slotM M s).view.loc (d : Thread nD τ) ↦[(slotM M s).view.set]{fullShare} f : sProp 𝕄)
      = ((sliceM M s).view.loc (d : Thread nD τ) ↦[(sliceM M s).view.set]{fullShare} f) :=
  congrArg (fun S => (M.view.loc (d : Thread nD τ) ↦[S]{fullShare} f : sProp 𝕄)) (View.set_reshape (sliceM M s).view (squeezes1 l).numel_eq)

/-- A slot written over whole with what another reads holds what that one holds. -/
theorem read_landed {l : Bool} (M N : Memref sig .tc .vmem (sh12 l) .bf16) (s : Fin 12) (f : M.view.ty.Contents (Elt F))
    (g : N.view.ty.Contents (Elt F)) :
    (sliceM N s).view.read (Elt F) ((slotM N s).view.write (Elt F) g ((slotM M s).view.read (Elt F) f) Finset.univ)
      = (sliceM M s).view.read (Elt F) f := by
  have h := View.read_write_univ (Val := Elt F) (v := (slotM N s).view) g ((slotM M s).view.read (Elt F) f)
  funext z
  have hz := Equiv.apply_symm_apply (Shape.reshapeEquiv (squeezes1 l).numel_eq) z
  exact (congrArg ((sliceM N s).view.read (Elt F) _) hz).symm.trans
    ((congrFun h _).trans (congrArg ((sliceM M s).view.read (Elt F) f) hz))

/-- Starting a transfer: the sender gives its slot and its peer's, and both cells will be credited. -/
theorem wp_transfer (K : Dev nD × CI → ℕ) (d : Dev nD) (l : Bool) (k : Fin 3) (c : Fin 4) (O : CellTallies nD τ sig Unit)
    {hsc : (slotM (recvM l) (sl k c) : Memref sig (Dev.tc (peer l d) : Thread nD τ).2.kind .vmem _ .bf16).view.ref.isScScratch = false}
    {hsrc : (slotM (sendM l) (sl k c)).view.WordExact} {hdst : (slotM (recvM l) (sl k c)).view.WordExact}
    {hsem : DmaTarget.Typed .vmem (.dma (semAt l true (sl k c)))
      (.remote (Dev.tc (peer l d) : Thread nD τ) (slotM (recvM l) (sl k c)) (.dma (semAt l false (sl k c))) hsc)}
    {α : Type} {Q : α → sProp 𝕄} {p : PUnit → ℙ α} :
    iprop(ctx I K ∗ sendSlot d l k c (sent l (msg I l k d c)) ∗ anyRecv (F := F) (peer l d) l k c ∗ owing d (tallyOf d l k c + O)
        ∗ dutyTok ER (sendC d l k c) 0 false ∗ dutyTok ER (recvC (peer l d) l k c) 0 false)
      ⊢ iprop(((cred (tallyAt (sendC d l k c) () (amt l)) ∗ owing d O) -∗ wpd d (p ⟨⟩) Q)
          -∗ wpd d (.op (.enqueueDma (slotM (sendM l) (sl k c))
              (.remote (Dev.tc (peer l d) : Thread nD τ) (slotM (recvM l) (sl k c)) (.dma (semAt l false (sl k c))) hsc)
              (.dma (semAt l true (sl k c))) hsrc hdst hsem) p) Q) := by
  unfold owing
  iintro ⟨#Hctx, Hs, ⟨%Y, Hr⟩, ⟨%W, Ho⟩, Ht, Ht'⟩ Hk
  unfold sendSlot recvSlot part owns
  icases Hs with ⟨%fs, %hfs, Hs⟩
  icases Hr with ⟨%fd, %hfd, Hr⟩
  iapply (Rounds.wp_send_pointsTo 𝒱₀ ER (rd I) (d : Thread nD τ) none (c' := (Dev.tc (peer l d) : Thread nD τ))
    (src := slotM (sendM l) (sl k c)) (dst := slotM (recvM l) (sl k c)) (sS := .dma (semAt l false (sl k c))) (sem := .dma (semAt l true (sl k c)))
    (hsc := hsc) (hsrc := hsrc) (hdst := hdst) (hsem := hsem) (k := p) (q := fullShare) (fs := fs) (fd := fd)
    (κ₁ := K (d, some (l, false, k, c))) (κ₂ := K (peer l d, some (l, true, k, c)))
    (r₁ := 0) (r₂ := 0) (d₁ := false) (d₂ := false)
    (by rw [duties_xfer I d (l, false, k, c)]; exact Finset.mem_singleton_self _)
    (by rw [duties_xfer I (peer l d) (l, true, k, c)]; exact Finset.mem_singleton_self _)
    () () (amt l) (amt_recv l (sl k c)) (amount_xfer I d (l, false, k, c) false) (amount_xfer I (peer l d) (l, true, k, c) false)
    O (add_comm _ _) (W := W)
    (by
      rw [payload_eq I d (some (l, false, k, c)) false]
      unfold pay anySend sendSlot part owns
      iintro H
      iexists _; iexists fs
      isplitr; · ipureintro; rfl
      iapply (Entails.of_eq (slot_pts d (sendM l) (sl k c) fs)) $$ H)
    (by
      rw [payload_eq I (peer l d) (some (l, true, k, c)) false]
      unfold pay recvSlot part owns
      iintro H
      iexists _
      isplitr
      swap
      · iapply (Entails.of_eq (slot_pts (peer l d) (recvM l) (sl k c) _)) $$ H
      · ipureintro
        rw [peer_peer]
        exact (read_landed (sendM l) (recvM l) (sl k c) fs fd).trans hfs)) $$ [Hs Hr Ho Ht Ht']
  · isplitr; · iapply (ctx_inv I K d (some (l, false, k, c))); iexact Hctx
    isplitr; · iapply (ctx_inv I K (peer l d) (some (l, true, k, c))); iexact Hctx
    isplitl [Hs]; · iapply (Entails.of_eq (slot_pts d (sendM l) (sl k c) fs).symm) $$ Hs
    isplitl [Hr]; · iapply (Entails.of_eq (slot_pts (peer l d) (recvM l) (sl k c) fd).symm) $$ Hr
    isplitl [Ho]; · iexact Ho
    isplitl [Ht]; · iexact Ht
    isplitr; · iapply (ctx_reached I K d (some (l, false, k, c))); iexact Hctx
    isplitl [Ht']; · iexact Ht'
    iapply (ctx_reached I K (peer l d) (some (l, true, k, c))); iexact Hctx
  iintro ⟨Hc, Ho⟩
  iapply Hk
  isplitl [Hc]; · iexact Hc
  iexists W; iexact Ho

/-! ## Waits -/

/-- Waiting once at a transfer's cell for all of its credit: what its duty hands over, and the cell closed at zero. -/
theorem wp_wait_cell (K : Dev nD × CI → ℕ) (d : Dev nD) (j : CJ) (ts : List (Fin 4 × Fin 7)) (hb : Below (lv (cell d (some j)) ()) ts)
    {w : TpuEff nD τ sig (Elt F) Λ₀ Proc.tc PUnit} {N : ℕ} (hN : N = amt j.1)
    (hw : ∀ R : PUnit → sProp 𝕄, wpE (defs₀ (F := F)) 𝒱₀ (d : Thread nD τ) none Set.univ w R = waitSpec (d : Thread nD τ) Set.univ (jsem j) N R)
    {α : Type} {Q : α → sProp 𝕄} {p : PUnit → ℙ α} :
    iprop(ctx I K ∗ cred (tallyAt (cell d (some j)) () (amt j.1)) ∗ owing d (owed d ts) ∗ atPos ER (cell d (some j)) 0 ∅ 0)
      ⊢ iprop(((pay I d (some j) false ∗ semVal (cell d (some j)) 0 ∗ owing d (owed d ts)) -∗ wpd d (p ⟨⟩) Q)
          -∗ wpd d (.op w p) Q) := by
  subst hN
  unfold owing
  iintro ⟨#Hctx, Hc, ⟨%W, Ho⟩, Hat⟩ Hk
  iapply (Rounds.wp_wait_rest_token 𝒱₀ ER (rd I) (d : Thread nD τ) none (sm := jsem j) (κ := K (d, some j)) (k := p)
    hw (Set.mem_univ _) () (O := owed d ts) (W := W) (R := 0) (m := 0) (T := ∅) (by rw [Nat.zero_add, expect_xfer])) $$ [Hc Ho Hat]
  · isplitr; · iapply (ctx_inv I K d (some j)); iexact Hctx
    isplitl [Hc]; · iexact Hc
    isplitl [Ho]; · iexact Ho
    isplitr; · iapply (ctx_mayWait I K d (some j) ts hb); iexact Hctx
    iexact Hat
  iintro ⟨Ho, Hat, -, Hpay⟩
  ihave Hpay := (Entails.of_eq (rest_xfer I d j)) $$ Hpay
  imod (Rounds.cell_close ER (rd I) (Set.mem_univ (K (d, some j))) (fun h => h) (R := 0 + 1) (duties_later I (cell d (some j)))) $$ [Hat] with Hz
  · isplitr; · iapply (ctx_inv I K d (some j)); iexact Hctx
    iexact Hat
  iapply Hk
  isplitl [Hpay]; · iexact Hpay
  isplitl [Hz]; · iexact Hz
  iexists _; iexact Ho

end Proto

end Cert.Mlp

end
-- ==== Proof.Stages.lean ====
/-
# The stages

A chunk's state on a device is described by one number, the stage it is about to enter: which of its six transfers are
over, in flight or not started, and what is known of the chunk it keeps. Every stage takes its chunk from `n` to `n + 1`;
the kernel's order of stages is then run by one induction over the list.
-/
module

public import proofs.«01_k».proof.Proof.Steps

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "ℙ" => Prog (TpuEff nD τ sig (Elt F) Λ₀ Proc.tc)

variable (I : Blocks F)

/-! ## A chunk's transfers -/

/-- A transfer's ghost state at launch: its cells' positions, the two duties to pay, the credit for its arrival. -/
def tokens (d : Dev nD) (c : Fin 4) (l : Bool) (k : Fin 3) : sProp 𝕄 :=
  iprop(atPos ER (sendC d l k c) 0 ∅ 0 ∗ atPos ER (recvC d l k c) 0 ∅ 0
    ∗ dutyTok ER (sendC d l k c) 0 false ∗ dutyTok ER (recvC (peer l d) l k c) 0 false ∗ cred (tallyAt (recvC d l k c) () (amt l)))
/-- Not started: those, the send slot, and the peer's landing slot. -/
def ready (d : Dev nD) (c : Fin 4) (l : Bool) (k : Fin 3) : sProp 𝕄 :=
  iprop(anyRecv (F := F) (peer l d) l k c ∗ anySend (F := F) d l k c ∗ tokens (F := F) d c l k)
/-- In flight: both credits, nothing waited for. -/
def flying (d : Dev nD) (c : Fin 4) (l : Bool) (k : Fin 3) : sProp 𝕄 :=
  iprop(atPos ER (sendC d l k c) 0 ∅ 0 ∗ atPos ER (recvC d l k c) 0 ∅ 0
    ∗ cred (tallyAt (sendC d l k c) () (amt l)) ∗ cred (tallyAt (recvC d l k c) () (amt l)))
/-- Over: both slots back, both semaphores at zero. -/
def over (d : Dev nD) (c : Fin 4) (l : Bool) (k : Fin 3) : sProp 𝕄 :=
  iprop(anyRecv (F := F) d l k c ∗ anySend (F := F) d l k c ∗ semVal (sendC d l k c) 0 ∗ semVal (recvC d l k c) 0)

/-- The transfers before the `b`th are over, those from there to the `a`th in flight, the rest not started. -/
def linkAt (d : Dev nD) (c : Fin 4) (a b : ℕ) (p : Bool × Fin 3) : sProp 𝕄 :=
  if ord p.1 p.2 < b then over (F := F) d c p.1 p.2 else if ord p.1 p.2 < a then flying (F := F) d c p.1 p.2 else ready (F := F) d c p.1 p.2
/-- All the transfers of a chunk: those that stages before `b` start are over, those before `a` in flight, the others to come. -/
def links (d : Dev nD) (c : Fin 4) (a b : ℕ) : sProp 𝕄 := bigSep Finset.univ fun p : Bool × Fin 3 => linkAt (F := F) d c a b p

/-- Different transfers of a chunk are started by different stages. -/
theorem ord_inj {p q : Bool × Fin 3} (h : ord p.1 p.2 = ord q.1 q.2) : p = q := by
  revert p q; decide

/-- Two descriptions that differ at one transfer only: that transfer out of the first, and any state of it that the
    second describes back in. -/
theorem links_swap (d : Dev nD) (c : Fin 4) (a b a' b' : ℕ) (p : Bool × Fin 3)
    (h : ∀ q : Bool × Fin 3, ord q.1 q.2 ≠ ord p.1 p.2 → ((ord q.1 q.2 < b ↔ ord q.1 q.2 < b') ∧ (ord q.1 q.2 < a ↔ ord q.1 q.2 < a'))) :
    links (F := F) d c a b ⊢ iprop(linkAt (F := F) d c a b p ∗ (linkAt (F := F) d c a' b' p -∗ links (F := F) d c a' b')) := by
  unfold links
  rw [bigSep_univ_at _ p, bigSep_univ_at (fun q => linkAt (F := F) d c a' b' q) p,
    bigSep_congr (s := Finset.univ.erase p) (Φ := fun q => linkAt (F := F) d c a b q) (Ψ := fun q => linkAt (F := F) d c a' b' q) fun q hq => by
      have hne : ord q.1 q.2 ≠ ord p.1 p.2 := fun he => (Finset.mem_erase.mp hq).1 (ord_inj he)
      unfold linkAt
      rw [if_congr (h q hne).1 rfl (if_congr (h q hne).2 rfl rfl)]]
  iintro ⟨H, Hr⟩
  isplitl [H]; · iexact H
  iintro H
  isplitl [H] <;> iassumption

/-- A stage takes from them what it needs to start its transfer, and puts it back in flight; -/
theorem links_start (d : Dev nD) (c : Fin 4) (l : Bool) (k : Fin 3) (b : ℕ) (hb : b ≤ ord l k) :
    links (F := F) d c (ord l k) b ⊢ iprop(ready (F := F) d c l k ∗ (flying (F := F) d c l k -∗ links (F := F) d c (ord l k + 1) b)) := by
  have h := links_swap (F := F) d c (ord l k) b (ord l k + 1) b (l, k) fun q hq => ⟨Iff.rfl, by have : ord q.1 q.2 ≠ ord l k := hq; omega⟩
  rwa [show linkAt (F := F) d c (ord l k) b (l, k) = ready (F := F) d c l k from by
      unfold linkAt; rw [if_neg (Nat.not_lt.mpr hb), if_neg (Nat.lt_irrefl _)],
    show linkAt (F := F) d c (ord l k + 1) b (l, k) = flying (F := F) d c l k from by
      unfold linkAt; rw [if_neg (Nat.not_lt.mpr hb), if_pos (Nat.lt_succ_self _)]] at h

/-- and takes the one it waits for, and puts it back over. -/
theorem links_end (d : Dev nD) (c : Fin 4) (l : Bool) (k : Fin 3) (a : ℕ) (ha : ord l k < a) :
    links (F := F) d c a (ord l k) ⊢ iprop(flying (F := F) d c l k ∗ (over (F := F) d c l k -∗ links (F := F) d c a (ord l k + 1))) := by
  have h := links_swap (F := F) d c a (ord l k) a (ord l k + 1) (l, k) fun q hq => ⟨by have : ord q.1 q.2 ≠ ord l k := hq; omega, Iff.rfl⟩
  rwa [show linkAt (F := F) d c a (ord l k) (l, k) = flying (F := F) d c l k from by
      unfold linkAt; rw [if_neg (Nat.lt_irrefl _), if_pos ha],
    show linkAt (F := F) d c a (ord l k + 1) (l, k) = over (F := F) d c l k from by
      unfold linkAt; rw [if_pos (Nat.lt_succ_self _)]] at h

/-! ## A chunk's state -/

/-- What the device keeps of the chunk for link `l`: after the stage that starts a transfer over it, that transfer's
    contents in full. -/
def held (d : Dev nD) (c : Fin 4) (n : ℕ) (l : Bool) : sProp 𝕄 :=
  iprop(∃ X, ⌜∀ k, ord l k + 1 = n → X = kept l (msg I l k d c)⌝ ∗ keepPart d l c X)
/-- The chunk's rows of the result: computed, after the last stage. -/
def result (d : Dev nD) (c : Fin 4) (n : ℕ) : sProp 𝕄 := iprop(∃ X, ⌜n = 7 → X = actOut I d c⌝ ∗ outRows d c X)

/-- A chunk about to enter stage `n` (`7`: through). -/
def chunkAt (d : Dev nD) (c : Fin 4) (n : ℕ) : sProp 𝕄 :=
  iprop(held I d c n false ∗ held I d c n true ∗ result I d c n ∗ links (F := F) d c n (n - 1))

/-- The blocks the device was given, in its staging buffers. -/
def inputs (d : Dev nD) : sProp 𝕄 :=
  iprop(owns (d : Thread nD τ) xM fullShare (I.x d)
    ∗ (bigSep Finset.univ fun k : Fin 3 => owns (d : Thread nD τ) (winM k) fullShare (I.win k d))
    ∗ (bigSep Finset.univ fun k : Fin 3 => owns (d : Thread nD τ) (woutM k) fullShare (I.wout k d)))

/-- What a chunk keeps, its contents forgotten; -/
theorem held_any (d : Dev nD) (c : Fin 4) (n : ℕ) (l : Bool) : held I d c n l ⊢ iprop(∃ X, keepPart (F := F) d l c X) := by
  unfold held
  iintro ⟨%X, -, H⟩
  iexists X; iexact H
/-- at a stage's end where no transfer of the link was started, nothing need be known of it; -/
theorem held_other (d : Dev nD) (c : Fin 4) (n n' : ℕ) (l : Bool) (h : ∀ k : Fin 3, ord l k + 1 ≠ n') : held I d c n l ⊢ held I d c n' l := by
  unfold held
  iintro ⟨%X, -, H⟩
  iexists X
  isplitr; · ipureintro; exact fun k hk => absurd hk (h k)
  iexact H
/-- what is known of it after the stage that starts one, -/
theorem held_intro (d : Dev nD) (c : Fin 4) (l : Bool) (k : Fin 3) : keepPart d l c (kept l (msg I l k d c)) ⊢ held I d c (ord l k + 1) l := by
  unfold held
  iintro H
  iexists _
  isplitr
  swap
  · iexact H
  · ipureintro
    intro k' hk'
    have : (l, k') = (l, k) := ord_inj (p := (l, k')) (q := (l, k)) (Nat.succ.inj hk')
    rw [(Prod.mk.inj this).2]
/-- and read back by the stage that waits for it. -/
theorem held_elim (d : Dev nD) (c : Fin 4) (l : Bool) (k : Fin 3) : held I d c (ord l k + 1) l ⊢ keepPart d l c (kept l (msg I l k d c)) := by
  unfold held
  iintro ⟨%X, %hX, H⟩
  rw [hX k rfl]
  iexact H
/-- Nothing is known of a chunk's result before the last stage. -/
theorem result_other (d : Dev nD) (c : Fin 4) (n n' : ℕ) (h : n' ≠ 7) : result I d c n ⊢ result I d c n' := by
  unfold result
  iintro ⟨%X, -, H⟩
  iexists X
  isplitr; · ipureintro; exact fun hk => absurd hk h
  iexact H

/-! ## Fragments -/

/-- A program that returns. -/
theorem wpd_ret {α : Type} {d : Dev nD} {x : α} {Q : α → sProp 𝕄} : Q x ⊢ wpd d (.ret x) Q := by
  unfold wpd
  rw [wp_ret]
  iintro H
  imodintro
  iexact H

section Fragments
variable (K : Dev nD × CI → ℕ) (d : Dev nD)

/-- A stage's end: the chunk is kept in full, rounded into its send slot, and its transfer started. -/
theorem wp_publish (l : Bool) (k : Fin 3) (c : Fin 4) (b : ℕ) (hb : b ≤ ord l k) (O : CellTallies nD τ sig Unit)
    {y : FVec F (sh2 l) .f32} (hy : y = msg I l k d c) {Q : PUnit → sProp 𝕄} :
    iprop(ctx I K ∗ (∃ X, keepPart (F := F) d l c X) ∗ links (F := F) d c (ord l k) b ∗ owing (F := F) d (tallyOf d l k c + O))
      ⊢ iprop(((held I d c (ord l k + 1) l ∗ links (F := F) d c (ord l k + 1) b ∗ owing (F := F) d O) -∗ Q ⟨⟩) -∗ wpd d (publish l d k c y) Q) := by
  subst hy
  iintro ⟨#Hctx, ⟨%X, Hkeep⟩, Hl, Ho⟩ Hk
  simp only [publish, Prog.lift, Prog.bind_op, Prog.bind_ret, Prog.pure_eq_ret]
  icases (links_start d c l k b hb) $$ Hl with ⟨Hready, Hback⟩
  unfold ready tokens
  icases Hready with ⟨Hr, ⟨%Y, Hs⟩, Ha, Ha', Ht, Ht', Hc⟩
  iapply (wp_load_part d (keepM l) (chunk l c)) $$ Hkeep
  iintro Hkeep
  iapply (wp_store_part d (keepM l) (chunk l c)) $$ Hkeep
  iintro Hkeep
  iapply (wp_load_part d (sendM l) (slot l (sl k c))) $$ Hs
  iintro Hs
  iapply (wp_store_part d (sendM l) (slot l (sl k c))) $$ Hs
  iintro Hs
  iapply (wp_transfer I K d l k c O) $$ [Hs Hr Ho Ht Ht']
  · isplitr; · iexact Hctx
    isplitl [Hs]; · iexact Hs
    isplitl [Hr]; · iexact Hr
    isplitl [Ho]; · iexact Ho
    isplitl [Ht] <;> iassumption
  iintro ⟨Hc', Ho⟩
  iapply wpd_ret
  iapply Hk
  isplitl [Hkeep]; · iapply (held_intro I d c l k) $$ Hkeep
  isplitr [Ho]
  · iapply Hback
    unfold flying
    isplitl [Ha]; · iexact Ha
    isplitl [Ha']; · iexact Ha'
    isplitl [Hc'] <;> iassumption
  · iexact Ho

/-- A stage's beginning: the transfer is waited for, at both ends. -/
theorem wp_await (l : Bool) (k : Fin 3) (c : Fin 4) (a : ℕ) (ha : ord l k < a) (ts : List (Fin 4 × Fin 7))
    (hb : Below (2 + 4 * ord l k + c.val) ts) {Q : PUnit → sProp 𝕄} :
    iprop(ctx I K ∗ links (F := F) d c a (ord l k) ∗ owing (F := F) d (owed d ts))
      ⊢ iprop(((recvSlot d l k c (sent l (msg I l k (peer l d) c)) ∗ (anyRecv (F := F) d l k c -∗ links (F := F) d c a (ord l k + 1))
            ∗ owing (F := F) d (owed d ts)) -∗ Q ⟨⟩) -∗ wpd d (await (F := F) l k c) Q) := by
  iintro ⟨#Hctx, Hl, Ho⟩ Hk
  simp only [await, Prog.lift, Prog.bind_op, Prog.bind_ret, Prog.pure_eq_ret]
  icases (links_end d c l k a ha) $$ Hl with ⟨Hf, Hback⟩
  unfold flying
  icases Hf with ⟨Ha, Ha', Hc, Hc'⟩
  iapply (wp_wait_cell I K d (l, false, k, c) ts
    (by rw [lv_send]; exact fun t ht h6 => by have := hb t ht h6; omega)
    (amt_send l (sl k c)) (wpE_waitDma2_eq 𝒱₀ (d : Thread nD τ) none Set.univ)) $$ [Hc Ho Ha]
  · isplitr; · iexact Hctx
    isplitl [Hc]; · iexact Hc
    isplitl [Ho] <;> iassumption
  iintro ⟨Hs, Hz, Ho⟩
  iapply (wp_wait_cell I K d (l, true, k, c) ts (by rw [lv_recv]; exact hb)
    (amt_recv l (sl k c)) (wpE_waitDma2_eq 𝒱₀ (d : Thread nD τ) none Set.univ)) $$ [Hc' Ho Ha']
  · isplitr; · iexact Hctx
    isplitl [Hc']; · iexact Hc'
    isplitl [Ho] <;> iassumption
  iintro ⟨Hr, Hz', Ho⟩
  iapply wpd_ret
  iapply Hk
  unfold pay
  isplitl [Hr]; · iexact Hr
  isplitr [Ho]
  · iintro Hany
    iapply Hback
    unfold over
    isplitl [Hany]; · iexact Hany
    isplitl [Hs]; · iexact Hs
    isplitl [Hz] <;> iassumption
  · iexact Ho

/-- The two loads after that: what was kept and what has landed. -/
theorem wp_pair (l : Bool) (k : Fin 3) (c : Fin 4) {X : (sh1 l).Idx → Elt F .f32} {Y : (sh1 l).Idx → Elt F .bf16}
    {Q : Vec F (sh1 l) .f32 × Vec F (sh1 l) .bf16 → sProp 𝕄} :
    iprop(keepPart d l c X ∗ recvSlot d l k c Y)
      ⊢ iprop(((keepPart d l c X ∗ recvSlot d l k c Y) -∗ Q (X, Y)) -∗ wpd d (pair (F := F) l k c) Q) := by
  iintro ⟨Hp, Hr⟩ Hk
  simp only [pair, Prog.lift, Prog.bind_op, Prog.bind_ret, Prog.pure_eq_ret]
  iapply (wp_load_part d (keepM l) (chunk l c)) $$ Hp
  iintro Hp
  iapply (wp_load_part d (recvM l) (slot l (sl k c))) $$ Hr
  iintro Hr
  iapply wpd_ret
  iapply Hk
  isplitl [Hp] <;> iassumption

/-- Waiting for a chunk's transfer and reading both summands: the transfer is over. -/
theorem wp_sum (l : Bool) (k : Fin 3) (c : Fin 4) (ts : List (Fin 4 × Fin 7)) (hb : Below (2 + 4 * ord l k + c.val) ts)
    {α : Type} {p : Vec F (sh1 l) .f32 × Vec F (sh1 l) .bf16 → ℙ α} {Q : α → sProp 𝕄} :
    iprop(ctx I K ∗ held I d c (ord l k + 1) l ∗ links (F := F) d c (ord l k + 1) (ord l k) ∗ owing (F := F) d (owed d ts))
      ⊢ iprop((((∃ X, keepPart (F := F) d l c X) ∗ links (F := F) d c (ord l k + 1) (ord l k + 1) ∗ owing (F := F) d (owed d ts))
            -∗ wpd d (p (kept l (msg I l k d c), sent l (msg I l k (peer l d) c))) Q)
          -∗ wpd d (await (F := F) l k c >>= fun _ => pair (F := F) l k c >>= p) Q) := by
  iintro ⟨#Hctx, Hh, Hl, Ho⟩ Hk
  unfold wpd
  rw [wp_bind]
  iapply (wp_await I K d l k c (ord l k + 1) (Nat.lt_succ_self _) ts hb) $$ [Hl Ho]
  · isplitr; · iexact Hctx
    isplitl [Hl]; · iexact Hl
    iexact Ho
  iintro ⟨Hr, Hback, Ho⟩
  rw [wp_bind]
  ihave Hh := (held_elim I d c l k) $$ Hh
  iapply (wp_pair d l k c) $$ [Hh Hr]
  · isplitl [Hh] <;> iassumption
  iintro ⟨Hh, Hr⟩
  iapply Hk
  isplitl [Hh]; · iexists _; iexact Hh
  isplitr [Ho]
  · iapply Hback; iexists _; iexact Hr
  · iexact Ho

/-! ## The four kinds of stage -/

/-- The inputs are read one at a time and given back: `x`, -/
theorem take_x : inputs I d ⊢ iprop(owns (d : Thread nD τ) xM fullShare (I.x d)
    ∗ (owns (d : Thread nD τ) xM fullShare (I.x d) -∗ inputs I d)) := by
  unfold inputs
  iintro ⟨Hx, Hr⟩
  isplitl [Hx]; · iexact Hx
  iintro Hx
  isplitl [Hx] <;> iassumption
/-- `Win_k`, -/
theorem take_in (k : Fin 3) : inputs I d ⊢ iprop(owns (d : Thread nD τ) (winM k) fullShare (I.win k d)
    ∗ (owns (d : Thread nD τ) (winM k) fullShare (I.win k d) -∗ inputs I d)) := by
  unfold inputs
  rw [bigSep_univ_at (fun k : Fin 3 => (owns (d : Thread nD τ) (winM k) fullShare (I.win k d) : sProp 𝕄)) k]
  iintro ⟨Hx, ⟨Hw, Hr⟩, Ho⟩
  isplitl [Hw]; · iexact Hw
  iintro Hw
  isplitl [Hx]; · iexact Hx
  isplitr [Ho]
  · isplitl [Hw] <;> iassumption
  · iexact Ho
/-- `Wout_k`. -/
theorem take_out (k : Fin 3) : inputs I d ⊢ iprop(owns (d : Thread nD τ) (woutM k) fullShare (I.wout k d)
    ∗ (owns (d : Thread nD τ) (woutM k) fullShare (I.wout k d) -∗ inputs I d)) := by
  unfold inputs
  rw [bigSep_univ_at (fun k : Fin 3 => (owns (d : Thread nD τ) (woutM k) fullShare (I.wout k d) : sProp 𝕄)) k]
  iintro ⟨Hx, Hi, Hw, Hr⟩
  isplitl [Hw]; · iexact Hw
  iintro Hw
  isplitl [Hx]; · iexact Hx
  isplitl [Hi]; · iexact Hi
  isplitl [Hw] <;> iassumption

/-- The first stage of a chunk; -/
theorem wp_first (c : Fin 4) (O : CellTallies nD τ sig Unit) {Q : PUnit → sProp 𝕄} :
    iprop(ctx I K ∗ chunkAt I d c 0 ∗ inputs I d ∗ owing (F := F) d (tallyOf d false 0 c + O))
      ⊢ iprop(((chunkAt I d c 1 ∗ inputs I d ∗ owing (F := F) d O) -∗ Q ⟨⟩) -∗ wpd d (first (F := F) d c) Q) := by
  unfold chunkAt
  iintro ⟨#Hctx, ⟨Hf, Ht, Hres, Hl⟩, Hin, Ho⟩ Hk
  simp only [first, Prog.lift, Prog.bind_op, Prog.bind_ret, Prog.pure_eq_ret]
  icases (take_x I d) $$ Hin with ⟨Hx, Hin⟩
  iapply (wp_load_of d xM (rows c)) $$ Hx
  iintro Hx
  ihave Hin := Hin $$ Hx
  icases (take_in I d 0) $$ Hin with ⟨Hw, Hin⟩
  iapply (wp_load_of d (winM 0) allIn) $$ Hw
  iintro Hw
  ihave Hin := Hin $$ Hw
  rw [allIn_emb]
  iapply (wp_publish I K d false 0 c 0 (Nat.zero_le _) O rfl) $$ [Hf Hl Ho]
  · isplitr; · iexact Hctx
    isplitl [Hf]; · iapply (held_any I d c 0 false) $$ Hf
    isplitl [Hl]; · iexact Hl
    iexact Ho
  iintro ⟨Hf, Hl, Ho⟩
  iapply Hk
  isplitr [Hin Ho]
  · isplitl [Hf]; · iexact Hf
    isplitl [Ht]; · iapply (held_other I d c 0 1 true (by decide)) $$ Ht
    isplitl [Hres]; · iapply (result_other I d c 0 1 (by decide)) $$ Hres
    iexact Hl
  isplitl [Hin]; · iexact Hin
  iexact Ho

/-- a product with `Win_k` of what the layer before ended with; -/
theorem wp_into (j k : Fin 3) (hjk : k.val = j.val + 1) (c : Fin 4) (O : CellTallies nD τ sig Unit) (ts : List (Fin 4 × Fin 7))
    (hb : Below (2 + 4 * ord true j + c.val) ts) (hO : owed d ts = tallyOf d false k c + O) {Q : PUnit → sProp 𝕄} :
    iprop(ctx I K ∗ chunkAt I d c (ord false k) ∗ inputs I d ∗ owing (F := F) d (owed d ts))
      ⊢ iprop(((chunkAt I d c (ord false k + 1) ∗ inputs I d ∗ owing (F := F) d O) -∗ Q ⟨⟩) -∗ wpd d (into (F := F) d j k c) Q) := by
  have hn : ord false k = ord true j + 1 := by
    show 2 * k.val + 0 = 2 * j.val + 1 + 1; omega
  have hact : sumOut (kept true (msg I true j d c)) (sent true (msg I true j (peer true d) c)) = actIn I k d c := by
    have : (j = 0 ∧ k = 1) ∨ (j = 1 ∧ k = 2) := by omega
    rcases this with ⟨rfl, rfl⟩ | ⟨rfl, rfl⟩ <;> rfl
  unfold chunkAt
  rw [hn, Nat.add_sub_cancel]
  iintro ⟨#Hctx, ⟨Hf, Ht, Hres, Hl⟩, Hin, Ho⟩ Hk
  simp only [into, Prog.lift]
  iapply (wp_sum I K d true j c ts hb) $$ [Ht Hl Ho]
  · isplitr; · iexact Hctx
    isplitl [Ht]; · iexact Ht
    isplitl [Hl]; · iexact Hl
    iexact Ho
  iintro ⟨⟨%X, Ht⟩, Hl, Ho⟩
  simp only [Prog.bind_op, Prog.bind_ret]
  icases (take_in I d k) $$ Hin with ⟨Hw, Hin⟩
  iapply (wp_load_of d (winM k) allIn) $$ Hw
  iintro Hw
  ihave Hin := Hin $$ Hw
  rw [allIn_emb, hact, hO, ← hn]
  iapply (wp_publish I K d false k c (ord false k) (Nat.le_refl _) O rfl) $$ [Hf Hl Ho]
  · isplitr; · iexact Hctx
    isplitl [Hf]; · iapply (held_any I d c (ord false k) false) $$ Hf
    isplitl [Hl]; · iexact Hl
    iexact Ho
  iintro ⟨Hf, Hl, Ho⟩
  iapply Hk
  isplitr [Hin Ho]
  · isplitl [Hf]; · iexact Hf
    isplitl [Ht]
    · unfold held
      iexists X
      isplitr
      · ipureintro
        intro k' hk'
        exact absurd hk' (by show 2 * k'.val + 1 + 1 ≠ 2 * k.val + 0 + 1; omega)
      · iexact Ht
    isplitl [Hres]; · iapply (result_other I d c _ _ (by show 2 * k.val + 0 + 1 ≠ 7; omega)) $$ Hres
    iexact Hl
  isplitl [Hin]; · iexact Hin
  iexact Ho

/-- a product with `Wout_k` of the hidden activations; -/
theorem wp_outOf (k : Fin 3) (c : Fin 4) (O : CellTallies nD τ sig Unit) (ts : List (Fin 4 × Fin 7))
    (hb : Below (2 + 4 * ord false k + c.val) ts) (hO : owed d ts = tallyOf d true k c + O) {Q : PUnit → sProp 𝕄} :
    iprop(ctx I K ∗ chunkAt I d c (ord true k) ∗ inputs I d ∗ owing (F := F) d (owed d ts))
      ⊢ iprop(((chunkAt I d c (ord true k + 1) ∗ inputs I d ∗ owing (F := F) d O) -∗ Q ⟨⟩) -∗ wpd d (outOf (F := F) d k c) Q) := by
  have hn : ord true k = ord false k + 1 := rfl
  unfold chunkAt
  rw [hn, Nat.add_sub_cancel]
  iintro ⟨#Hctx, ⟨Hf, Ht, Hres, Hl⟩, Hin, Ho⟩ Hk
  simp only [outOf, Prog.lift]
  iapply (wp_sum I K d false k c ts hb) $$ [Hf Hl Ho]
  · isplitr; · iexact Hctx
    isplitl [Hf]; · iexact Hf
    isplitl [Hl]; · iexact Hl
    iexact Ho
  iintro ⟨⟨%X, Hf⟩, Hl, Ho⟩
  simp only [Prog.bind_op, Prog.bind_ret]
  icases (take_out I d k) $$ Hin with ⟨Hw, Hin⟩
  iapply (wp_load_of d (woutM k) allOut) $$ Hw
  iintro Hw
  ihave Hin := Hin $$ Hw
  rw [allOut_emb, hO, ← hn]
  iapply (wp_publish I K d true k c (ord true k) (Nat.le_refl _) O rfl) $$ [Ht Hl Ho]
  · isplitr; · iexact Hctx
    isplitl [Ht]; · iapply (held_any I d c (ord true k) true) $$ Ht
    isplitl [Hl]; · iexact Hl
    iexact Ho
  iintro ⟨Ht, Hl, Ho⟩
  iapply Hk
  isplitr [Hin Ho]
  · isplitl [Hf]
    · unfold held
      iexists X
      isplitr
      · ipureintro
        intro k' hk'
        exact absurd hk' (by show 2 * k'.val + 0 + 1 ≠ 2 * k.val + 1 + 1; omega)
      · iexact Hf
    isplitl [Ht]; · iexact Ht
    isplitl [Hres]; · iapply (result_other I d c _ _ (by show 2 * k.val + 1 + 1 ≠ 7; omega)) $$ Hres
    iexact Hl
  isplitl [Hin]; · iexact Hin
  iexact Ho

/-- and the last sum. -/
theorem wp_last (c : Fin 4) (ts : List (Fin 4 × Fin 7)) (hb : Below (2 + 4 * ord true 2 + c.val) ts) {Q : PUnit → sProp 𝕄} :
    iprop(ctx I K ∗ chunkAt I d c 6 ∗ inputs I d ∗ owing (F := F) d (owed d ts))
      ⊢ iprop(((chunkAt I d c 7 ∗ inputs I d ∗ owing (F := F) d (owed d ts)) -∗ Q ⟨⟩) -∗ wpd d (last (F := F) c) Q) := by
  unfold chunkAt
  iintro ⟨#Hctx, ⟨Hf, Ht, Hres, Hl⟩, Hin, Ho⟩ Hk
  simp only [last, Prog.lift]
  iapply (wp_sum I K d true 2 c ts hb) $$ [Ht Hl Ho]
  · isplitr; · iexact Hctx
    isplitl [Ht]; · iexact Ht
    isplitl [Hl]; · iexact Hl
    iexact Ho
  iintro ⟨⟨%X, Ht⟩, Hl, Ho⟩
  simp only [Prog.bind_op, Prog.bind_ret, Prog.pure_eq_ret]
  unfold result
  icases Hres with ⟨%Y, -, Hres⟩
  iapply (wp_load_part d outM (rows c)) $$ Hres
  iintro Hres
  iapply (wp_store_part d outM (rows c)) $$ Hres
  iintro Hres
  iapply wpd_ret
  iapply Hk
  isplitr [Hin Ho]
  · isplitl [Hf]; · iapply (held_other I d c 6 7 false (by decide)) $$ Hf
    isplitl [Ht]
    · unfold held
      iexists X
      isplitr
      · ipureintro
        intro k' hk'
        exact absurd hk' (by revert k'; decide)
      · iexact Ht
    isplitl [Hres]
    · iexists _
      isplitr
      swap
      · iexact Hres
      · ipureintro; intro _; rfl
    iexact Hl
  isplitl [Hin]; · iexact Hin
  iexact Ho

/-! ## Any stage, and the list of them -/

/-- Stage `n` of chunk `c` takes the chunk from `n` to `n + 1`. -/
theorem wp_stage (c : Fin 4) (n : Fin 7) (ts : List (Fin 4 × Fin 7)) (hb : 0 < n.val → Below (2 + 4 * (n.val - 1) + c.val) ((c, n) :: ts))
    {Q : PUnit → sProp 𝕄} :
    iprop(ctx I K ∗ chunkAt I d c n.val ∗ inputs I d ∗ owing (F := F) d (owed d ((c, n) :: ts)))
      ⊢ iprop(((chunkAt I d c (n.val + 1) ∗ inputs I d ∗ owing (F := F) d (owed d ts)) -∗ Q ⟨⟩) -∗ wpd d (stage (F := F) d c n) Q) := by
  match n, hb with
  | 0, _ => exact wp_first I K d c (owed d ts)
  | 1, hb => exact wp_outOf I K d 0 c (owed d ts) ((c, 1) :: ts) (hb (by decide)) rfl
  | 2, hb => exact wp_into I K d 0 1 rfl c (owed d ts) ((c, 2) :: ts) (hb (by decide)) rfl
  | 3, hb => exact wp_outOf I K d 1 c (owed d ts) ((c, 3) :: ts) (hb (by decide)) rfl
  | 4, hb => exact wp_into I K d 1 2 rfl c (owed d ts) ((c, 4) :: ts) (hb (by decide)) rfl
  | 5, hb => exact wp_outOf I K d 2 c (owed d ts) ((c, 5) :: ts) (hb (by decide)) rfl
  | 6, hb =>
    have h := wp_last I K d c ((c, 6) :: ts) (hb (by decide)) (Q := Q)
    rwa [show owed d ((c, 6) :: ts) = owed d ts from zero_add _] at h ⊢

end Fragments

/-- The stages the chunks stand before, after a list of them. -/
def after (st : Fin 4 → ℕ) : List (Fin 4 × Fin 7) → Fin 4 → ℕ
  | [] => st
  | t :: ts => after (Function.update st t.1 (t.2.val + 1)) ts

/-- A list that takes each chunk through its stages in order, never waiting for a transfer while owing one that is not
    above it. -/
def Fits (st : Fin 4 → ℕ) : List (Fin 4 × Fin 7) → Prop
  | [] => True
  | t :: ts => st t.1 = t.2.val ∧ (0 < t.2.val → Below (2 + 4 * (t.2.val - 1) + t.1.val) (t :: ts))
      ∧ Fits (Function.update st t.1 (t.2.val + 1)) ts

instance decFits : (ts : List (Fin 4 × Fin 7)) → (st : Fin 4 → ℕ) → Decidable (Fits st ts)
  | [], _ => isTrue trivial
  | t :: ts, st => @instDecidableAnd _ _ _ (@instDecidableAnd _ _ _ (decFits ts _))

/-- The kernel's order takes every chunk through its stages one after the other, to the end. -/
theorem order_fits : Fits (fun _ => 0) order := by decide
theorem order_after : ∀ c, after (fun _ => 0) order c = 7 := by decide

/-- A list of stages that takes every chunk through its own in order, run. -/
theorem wp_stages (K : Dev nD × CI → ℕ) (d : Dev nD) (ts : List (Fin 4 × Fin 7)) : ∀ (st : Fin 4 → ℕ) (hf : Fits st ts) {Q : PUnit → sProp 𝕄},
    iprop(ctx I K ∗ (bigSep Finset.univ fun c => chunkAt I d c (st c)) ∗ inputs I d ∗ owing (F := F) d (owed d ts))
      ⊢ iprop((((bigSep Finset.univ fun c => chunkAt I d c (after st ts c)) ∗ inputs I d ∗ owing (F := F) d 0) -∗ Q ⟨⟩)
          -∗ wpd d (stages (F := F) d ts) Q) := by
  induction ts with
  | nil =>
    intro st hf Q
    rw [show stages (F := F) d [] = Prog.ret ⟨⟩ from rfl]
    iintro ⟨#Hctx, Hch, Hin, Ho⟩ Hk
    iapply wpd_ret
    iapply Hk
    isplitl [Hch]; · iexact Hch
    isplitl [Hin]; · iexact Hin
    iexact Ho
  | cons t ts ih =>
    intro st hf Q
    obtain ⟨hst, hb, hf⟩ := hf
    obtain ⟨c, n⟩ := t
    have hsplit := bigSep_univ_at (fun c' => chunkAt I d c' (st c')) c
    have hjoin := bigSep_univ_at (fun c' => chunkAt I d c' (Function.update st c (n.val + 1) c')) c
    rw [bigSep_congr (s := Finset.univ.erase c) (Φ := fun c' => chunkAt I d c' (Function.update st c (n.val + 1) c'))
      (Ψ := fun c' => chunkAt I d c' (st c')) fun c' hc' => by rw [Function.update_of_ne (Finset.mem_erase.mp hc').1]] at hjoin
    rw [Function.update_self] at hjoin
    rw [show stages (F := F) d ((c, n) :: ts) = (stage (F := F) d c n >>= fun _ => stages (F := F) d ts) from rfl, hsplit, show st c = n.val from hst]
    iintro ⟨#Hctx, ⟨Hc, Hrest⟩, Hin, Ho⟩ Hk
    unfold wpd
    rw [wp_bind]
    iapply (wp_stage I K d c n ts hb) $$ [Hc Hin Ho]
    · isplitr; · iexact Hctx
      isplitl [Hc]; · iexact Hc
      isplitl [Hin] <;> iassumption
    iintro ⟨Hc, Hin, Ho⟩
    iapply (ih (Function.update st c (n.val + 1)) hf) $$ [Hc Hrest Hin Ho]
    · isplitr; · iexact Hctx
      isplitl [Hc Hrest]
      · rw [hjoin]
        isplitl [Hc] <;> iassumption
      isplitl [Hin] <;> iassumption
    iintro H
    iapply Hk
    iexact H

end Cert.Mlp

end
-- ==== Proof.Body.lean ====
/-
# The body

The handshake, the buffers cut into slots and put together again, and the whole body from its launch state.
-/
module

public import proofs.«01_k».proof.Proof.Stages

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
local notation "ℙ" => Prog (TpuEff nD τ sig (Elt F) Λ₀ Proc.tc)

/-! ## Cutting buffers -/

section Tiles
variable {sh : Shape} {T : Type} [Fintype T] [DecidableEq T] {r : T → Rect sh} {f : sh.Idx → ℕ} {g : T → ℕ}

/-- Rectangles told apart by a number their elements carry are disjoint, -/
theorem tiles_disjoint (h : ∀ t x, x ∈ (r t).set ↔ f x = g t) (hg : Function.Injective g) (t t' : T) (htt : t ≠ t') :
    Disjoint (r t).set (r t').set :=
  Finset.disjoint_left.mpr fun x hx hx' => htt (hg (((h t x).mp hx).symm.trans ((h t' x).mp hx')))
/-- and cover if every element's number is some rectangle's. -/
theorem tiles_cover (h : ∀ t x, x ∈ (r t).set ↔ f x = g t) (hf : ∀ x, ∃ t, f x = g t) :
    (Finset.univ : Finset T).biUnion (fun t => (r t).set) = Finset.univ :=
  Finset.eq_univ_iff_forall.mpr fun x => by
    obtain ⟨t, ht⟩ := hf x
    exact Finset.mem_biUnion.mpr ⟨t, Finset.mem_univ t, (h t x).mpr ht⟩

end Tiles

/-- The slots by chunk and layer. -/
abbrev slotR (l : Bool) (p : Fin 4 × Fin 3) : Rect (sh12 l) := slot l (sl p.2 p.1)

/-- An element is in the slot of layer `k`, chunk `c` exactly when its first coordinate is `4k + c`; -/
theorem mem_slot (l : Bool) (p : Fin 4 × Fin 3) (x : (sh12 l).Idx) : x ∈ (slotR l p).set ↔ (x 0).val = 4 * p.2.val + p.1.val := by
  rw [Rect.mem_set_unit]
  constructor
  · intro h
    have h0 := h 0
    have h1 : 4 * p.2.val + p.1.val ≤ (x 0).val := h0.1
    have h2 : (x 0).val < 4 * p.2.val + p.1.val + 1 := h0.2
    omega
  · intro h a
    match a with
    | 0 => exact ⟨h.ge, by show (x 0).val < 4 * p.2.val + p.1.val + 1; omega⟩
    | 1 => exact ⟨Nat.zero_le _, by show (x 1).val < 0 + 128; have : (x 1).val < 128 := (x 1).isLt; omega⟩
    | 2 => exact ⟨Nat.zero_le _, by show (x 2).val < 0 + wid l; have : (x 2).val < wid l := (x 2).isLt; omega⟩

/-- in the part kept for a chunk, when its first coordinate is the chunk; -/
theorem mem_chunk (l : Bool) (c : Fin 4) (x : (sh4 l).Idx) : x ∈ (chunk l c).set ↔ (x 0).val = c.val := by
  rw [Rect.mem_set_unit]
  constructor
  · intro h
    have h0 := h 0
    have h1 : c.val ≤ (x 0).val := h0.1
    have h2 : (x 0).val < c.val + 1 := h0.2
    omega
  · intro h a
    match a with
    | 0 => exact ⟨h.ge, by show (x 0).val < c.val + 1; omega⟩
    | 1 => exact ⟨Nat.zero_le _, by show (x 1).val < 0 + 128; have : (x 1).val < 128 := (x 1).isLt; omega⟩
    | 2 => exact ⟨Nat.zero_le _, by show (x 2).val < 0 + wid l; have : (x 2).val < wid l := (x 2).isLt; omega⟩

/-- and in the rows of a chunk, when its row is one of the 128 there. -/
theorem mem_rows (c : Fin 4) (x : S512x256.Idx) : x ∈ (rows c).set ↔ (x 0).val / 128 = c.val := by
  rw [Rect.mem_set_unit]
  constructor
  · intro h
    have h0 := h 0
    have h1 : 128 * c.val ≤ (x 0).val := h0.1
    have h2 : (x 0).val < 128 * c.val + 128 := h0.2
    omega
  · intro h a
    match a with
    | 0 => exact ⟨by show 128 * c.val ≤ (x 0).val; omega, by show (x 0).val < 128 * c.val + 128; omega⟩
    | 1 => exact ⟨Nat.zero_le _, by show (x 1).val < 0 + 256; have : (x 1).val < 256 := (x 1).isLt; omega⟩

/-- So the slots of a buffer are disjoint and make it up, -/
theorem slot_disjoint (l : Bool) : ∀ p p', p ≠ p' → Disjoint (slotR l p).set (slotR l p').set :=
  tiles_disjoint (mem_slot l) fun p q h => by
    obtain ⟨c, k⟩ := p; obtain ⟨c', k'⟩ := q
    have : 4 * k.val + c.val = 4 * k'.val + c'.val := h
    exact Prod.ext (Fin.ext (by show c.val = c'.val; omega)) (Fin.ext (by show k.val = k'.val; omega))
theorem slot_cover (l : Bool) : (Finset.univ : Finset (Fin 4 × Fin 3)).biUnion (fun p => (slotR l p).set) = Finset.univ :=
  tiles_cover (mem_slot l) fun x => by
    have : (x 0).val < 12 := (x 0).isLt
    exact ⟨(⟨(x 0).val % 4, by omega⟩, ⟨(x 0).val / 4, by omega⟩), by show (x 0).val = 4 * ((x 0).val / 4) + (x 0).val % 4; omega⟩
/-- as are the parts kept for the chunks, -/
theorem chunk_disjoint (l : Bool) : ∀ c c', c ≠ c' → Disjoint (chunk l c).set (chunk l c').set :=
  tiles_disjoint (mem_chunk l) fun _ _ h => Fin.ext h
theorem chunk_cover (l : Bool) : (Finset.univ : Finset (Fin 4)).biUnion (fun c => (chunk l c).set) = Finset.univ :=
  tiles_cover (mem_chunk l) fun x => ⟨x 0, rfl⟩
/-- and the rows of the chunks. -/
theorem rows_disjoint : ∀ c c', c ≠ c' → Disjoint (rows c).set (rows c').set :=
  tiles_disjoint mem_rows fun _ _ h => Fin.ext h
theorem rows_cover : (Finset.univ : Finset (Fin 4)).biUnion (fun c => (rows c).set) = Finset.univ :=
  tiles_cover mem_rows fun x => by
    have : (x 0).val < 512 := (x 0).isLt
    exact ⟨⟨(x 0).val / 128, by omega⟩, rfl⟩

/-- A buffer at contents nobody states. -/
abbrev anyOf {sh : Shape} {e : EltTy} (d : Dev nD) (M : Memref sig .tc .vmem sh e) : sProp 𝕄 :=
  iprop(∃ X : sh.Idx → Elt F e, owns (d : Thread nD τ) M fullShare X)

section Cut
variable {sh : Shape} {e : EltTy} {T : Type} [Fintype T] [DecidableEq T] (d : Dev nD) (M : Memref sig .tc .vmem sh e) (r : T → Rect sh)
  (hr : ∀ t a, (r t).stride a = 1) (hd : ∀ t t', t ≠ t' → Disjoint (r t).set (r t').set)
  (hcov : (Finset.univ : Finset T).biUnion (fun t => (r t).set) = Finset.univ)
include hd hcov

/-- A buffer that holds anything is cut into parts that hold anything; -/
theorem cut_any : anyOf (F := F) d M ⊢ bigSep Finset.univ fun t => iprop(∃ X, part (F := F) d M (r t) (hr t) X) := by
  have h (X : sh.Idx → Elt F e) (t : T) :
      owns (d : Thread nD τ) (M.slice (r t) (hr t)) fullShare (fun j => X ((r t).emb j)) ⊢ iprop(∃ X, part (F := F) d M (r t) (hr t) X) := by
    unfold part
    iintro H
    iexists _; iexact H
  have h' (X : sh.Idx → Elt F e) : owns (d : Thread nD τ) M fullShare X ⊢ bigSep Finset.univ fun t => iprop(∃ X, part (F := F) d M (r t) (hr t) X) :=
    (owns_rects (d : Thread nD τ) M fullShare r hr hd hcov X).trans (bigSep_mono fun t _ => h X t)
  iintro ⟨%X, H⟩
  iapply (h' X) $$ H

/-- parts that hold known contents make up a buffer that holds them glued; -/
theorem join_parts (Z : (t : T) → (r t).shape.Idx → Elt F e) :
    (bigSep Finset.univ fun t => part (F := F) d M (r t) (hr t) (Z t)) ⊢ owns (d : Thread nD τ) M fullShare (Rect.glue r hcov Z) := by
  refine (Entails.of_eq (bigSep_congr fun t _ => ?_)).trans (owns_of_rects (d : Thread nD τ) M fullShare r hr hd hcov (Rect.glue r hcov Z))
  unfold part
  rw [show (fun j => Rect.glue r hcov Z ((r t).emb j)) = Z t from funext fun j => Rect.glue_emb r hcov hd Z t j]

/-- parts that hold anything make up a buffer that holds anything. -/
theorem join_any : (bigSep Finset.univ fun t => iprop(∃ X, part (F := F) d M (r t) (hr t) X)) ⊢ anyOf (F := F) d M := by
  iintro H
  icases (BI.bigSep_exists_pi Finset.univ (fun (t : T) (X : (r t).shape.Idx → Elt F e) => part (F := F) d M (r t) (hr t) X)) $$ H with ⟨%Z, H⟩
  iexists _
  iapply (join_parts d M r hr hd hcov Z) $$ H

end Cut

/-- A separating conjunction over a chunk's transfers, link by link. -/
theorem by_link (Φ : Bool → Fin 3 → Fin 4 → sProp 𝕄) :
    (bigSep Finset.univ fun c : Fin 4 => bigSep Finset.univ fun p : Bool × Fin 3 => Φ p.1 p.2 c)
      = iprop((bigSep Finset.univ fun c : Fin 4 => bigSep Finset.univ fun k : Fin 3 => Φ false k c)
          ∗ (bigSep Finset.univ fun c : Fin 4 => bigSep Finset.univ fun k : Fin 3 => Φ true k c)) := by
  rw [← bigSep_sep']
  exact bigSep_congr fun c _ => by
    rw [bigSep_univ_prod, bigSep_univ_eq_bigSepL [false, true] (by decide) (by decide), bigSepL_cons_cons, bigSepL_singleton]
    rfl

/-- The send buffer of a link as its twelve slots, and back; -/
theorem cut_send (d : Dev nD) (l : Bool) :
    anyOf (F := F) d (sendM l) ⊢ bigSep Finset.univ fun c : Fin 4 => bigSep Finset.univ fun k : Fin 3 => anySend (F := F) d l k c :=
  (cut_any d (sendM l) (slotR l) (fun _ _ => rfl) (slot_disjoint l) (slot_cover l)).trans (Entails.of_eq (bigSep_univ_prod _))
theorem join_send (d : Dev nD) (l : Bool) :
    (bigSep Finset.univ fun c : Fin 4 => bigSep Finset.univ fun k : Fin 3 => anySend (F := F) d l k c) ⊢ anyOf (F := F) d (sendM l) :=
  (Entails.of_eq (bigSep_univ_prod (fun p : Fin 4 × Fin 3 => anySend (F := F) d l p.2 p.1)).symm).trans
    (join_any d (sendM l) (slotR l) (fun _ _ => rfl) (slot_disjoint l) (slot_cover l))
/-- the landing buffer of a link as its twelve slots, and back. -/
theorem cut_recv (d : Dev nD) (l : Bool) : anyOf (F := F) d (recvM l) ⊢ landing (F := F) d l :=
  (cut_any d (recvM l) (slotR l) (fun _ _ => rfl) (slot_disjoint l) (slot_cover l)).trans (Entails.of_eq (bigSep_univ_prod _))
theorem join_recv (d : Dev nD) (l : Bool) : landing (F := F) d l ⊢ anyOf (F := F) d (recvM l) :=
  (Entails.of_eq (bigSep_univ_prod (fun p : Fin 4 × Fin 3 => anyRecv (F := F) d l p.2 p.1)).symm).trans
    (join_any d (recvM l) (slotR l) (fun _ _ => rfl) (slot_disjoint l) (slot_cover l))

/-! ## The handshake -/

variable (I : Blocks F)

/-- Everything a device owes after the handshake is above the barrier. -/
theorem order_above : Below 1 order := by decide

/-- A device's share of the handshake's ghost state. -/
def barrier (d : Dev nD) : sProp 𝕄 :=
  iprop(atPos ER (cell d none) 0 ∅ 0 ∗ cred (tallyAt (cell d none) () 2)
    ∗ dutyTok ER (cell (peer false d) none) 0 false ∗ dutyTok ER (cell (peer true d) none) 0 true)

/-- One signal: the unit over link `l`, with this device's landing slots of that link. -/
theorem wp_hail (K : Dev nD × CI → ℕ) (d : Dev nD) (l : Bool) (O : CellTallies nD τ sig Unit) {N : ℕ} (hN : 1 = N) {α : Type} {Q : α → sProp 𝕄} {p : PUnit → ℙ α} :
    iprop(ctx I K ∗ dutyTok ER (cell (peer l d) none) 0 l ∗ landing (F := F) d l ∗ owing (F := F) d (tallyAt (cell (peer l d) none) () 1 + O))
      ⊢ iprop((owing (F := F) d O -∗ wpd d (p ⟨⟩) Q) -∗ wpd d (.op (.semSignal (peer l d : Thread nD τ) barS N) p) Q) := by
  subst hN
  unfold owing
  iintro ⟨#Hctx, Ht, Hl, ⟨%W, Ho⟩⟩ Hk
  iapply (Rounds.wp_signal 𝒱₀ ER (rd I) (d : Thread nD τ) none (dst := (peer l d : Thread nD τ)) (sem := barS) (k := p) (κ := K (peer l d, none)) (d := l) (r := 0)
    (by rw [duties_bar I (peer l d)]; exact Finset.mem_univ _) (amount_bar I (peer l d) l) () O (add_comm _ _)) $$ [Ho Ht Hl]
  · isplitr; · iapply (ctx_inv I K (peer l d) none); iexact Hctx
    isplitl [Ho]; · iexact Ho
    isplitl [Ht]; · iexact Ht
    isplitl [Hl]
    · rw [payload_eq I (peer l d) none l]
      unfold pay
      rw [peer_peer]
      iexact Hl
    iapply (ctx_reached I K (peer l d) none); iexact Hctx
  iintro Ho
  iapply Hk
  iexists W; iexact Ho

/-- The two units of the barrier hand over the peers' landing slots. -/
theorem landings (d : Dev nD) : bigSepL [false, true] (pay I d none)
    ⊢ iprop(landing (F := F) (peer false d) false ∗ landing (F := F) (peer true d) true) := by
  rw [bigSepL_cons_cons, bigSepL_singleton]
  exact Entails.of_eq rfl

/-- The handshake: each device gives its landing slots to its peers and comes out with theirs. -/
theorem wp_handshake (K : Dev nD × CI → ℕ) (d : Dev nD) {Q : PUnit → sProp 𝕄} :
    iprop(ctx I K ∗ barrier (F := F) d ∗ landing (F := F) d false ∗ landing (F := F) d true ∗ owing (F := F) d (O₀ d order))
      ⊢ iprop(((semVal (cell d none) 0 ∗ landing (F := F) (peer false d) false ∗ landing (F := F) (peer true d) true ∗ owing (F := F) d (owed d order)) -∗ Q ⟨⟩)
          -∗ wpd d (handshake (F := F) d) Q) := by
  unfold barrier O₀
  iintro ⟨#Hctx, ⟨Hat, Hc, Ht, Ht'⟩, Hl, Hl', Ho⟩ Hk
  simp only [handshake, semSignalWord, semWaitWord, Prog.lift, Prog.bind_op, Prog.bind_ret, Prog.pure_eq_ret]
  iapply (wp_hail I K d false (tallyAt (cell (peer true d) none) () 1 + owed d order) (by decide)) $$ [Ht Hl Ho]
  · isplitr; · iexact Hctx
    isplitl [Ht]; · iexact Ht
    isplitl [Hl]; · iexact Hl
    iexact Ho
  iintro Ho
  iapply (wp_hail I K d true (owed d order) (by decide)) $$ [Ht' Hl' Ho]
  · isplitr; · iexact Hctx
    isplitl [Ht']; · iexact Ht'
    isplitl [Hl']; · iexact Hl'
    iexact Ho
  iintro Ho
  unfold owing
  icases Ho with ⟨%W, Ho⟩
  iapply (Rounds.wp_wait_rest_token 𝒱₀ ER (rd I) (d : Thread nD τ) none (κ := K (d, none))
    (wpE_semWait_eq 𝒱₀ (d : Thread nD τ) none Set.univ) (Set.mem_univ _) () (O := owed d order) (W := W) (R := 0) (m := 0) (T := ∅)
    (by rw [expect_bar I d]; decide)) $$ [Hc Ho Hat]
  · isplitr; · iapply (ctx_inv I K d none); iexact Hctx
    isplitl [Hc]; · iexact Hc
    isplitl [Ho]; · iexact Ho
    isplitr; · iapply (ctx_mayWait I K d none order (by rw [lv_bar]; exact order_above)); iexact Hctx
    iexact Hat
  iintro ⟨Ho, Hat, -, Hpay⟩
  ihave Hpay := (Entails.of_eq ((rest_bar I d).trans (bigSep_univ_eq_bigSepL [false, true] (by decide) (by decide) _))) $$ Hpay
  ihave Hpay := (landings I d) $$ Hpay
  imod (Rounds.cell_close ER (rd I) (Set.mem_univ (K (d, none))) (fun h => h) (R := 0 + 1) (duties_later I (cell d none))) $$ [Hat] with Hz
  · isplitr; · iapply (ctx_inv I K d none); iexact Hctx
    iexact Hat
  iapply wpd_ret
  iapply Hk
  icases Hpay with ⟨Hl, Hl'⟩
  isplitl [Hz]; · iexact Hz
  isplitl [Hl]; · iexact Hl
  isplitl [Hl']; · iexact Hl'
  iexists _; iexact Ho

/-! ## The whole body -/

/-- The buffers the kernel allocates for itself. -/
def scratch (d : Dev nD) : sProp 𝕄 :=
  iprop((anyOf (F := F) d (sendM false) ∗ anyOf (F := F) d (sendM true)) ∗ (anyOf (F := F) d (recvM false) ∗ anyOf (F := F) d (recvM true))
    ∗ (anyOf (F := F) d (keepM false) ∗ anyOf (F := F) d (keepM true)))

/-- What a device's result array ends with: each chunk's rows. -/
def resultOf (d : Dev nD) : S512x256.Idx → Elt F .f32 := Rect.glue rows rows_cover fun c => actOut I d c

/-- The chunks before their first stage. -/
theorem chunks_start (d : Dev nD) :
    iprop((anyOf (F := F) d (sendM false) ∗ anyOf (F := F) d (sendM true)) ∗ (landing (F := F) (peer false d) false ∗ landing (F := F) (peer true d) true)
        ∗ (anyOf (F := F) d (keepM false) ∗ anyOf (F := F) d (keepM true)) ∗ anyOf (F := F) d outM
        ∗ bigSep Finset.univ fun c : Fin 4 => bigSep Finset.univ fun p : Bool × Fin 3 => tokens (F := F) d c p.1 p.2)
      ⊢ bigSep Finset.univ fun c => chunkAt I d c 0 := by
  unfold chunkAt links
  simp only [bigSep_sep']
  rw [show (fun c : Fin 4 => bigSep Finset.univ fun p : Bool × Fin 3 => linkAt (F := F) d c 0 (0 - 1) p)
    = fun c => bigSep Finset.univ fun p : Bool × Fin 3 => ready (F := F) d c p.1 p.2 from rfl]
  unfold ready
  simp only [bigSep_sep']
  rw [by_link fun l k c => anyRecv (F := F) (peer l d) l k c, by_link fun l k c => anySend (F := F) d l k c]
  iintro ⟨⟨Hs, Hs'⟩, ⟨Hr, Hr'⟩, ⟨Hk, Hk'⟩, Ho, Htok⟩
  have hkeep (l : Bool) : anyOf (F := F) d (keepM l) ⊢ bigSep Finset.univ fun c => held I d c 0 l := by
    have h (c : Fin 4) : iprop(∃ X, part (F := F) d (keepM l) (chunk l c) (fun _ => rfl) X) ⊢ held I d c 0 l := by
      unfold held
      iintro ⟨%X, H⟩
      iexists X
      isplitr; · ipureintro; exact fun k hk => absurd hk (Nat.succ_ne_zero _)
      iexact H
    exact (cut_any d (keepM l) (chunk l) (fun _ _ => rfl) (chunk_disjoint l) (chunk_cover l)).trans (bigSep_mono fun c _ => h c)
  have hout : anyOf (F := F) d outM ⊢ bigSep Finset.univ fun c => result I d c 0 := by
    have h (c : Fin 4) : iprop(∃ X, part (F := F) d outM (rows c) (fun _ => rfl) X) ⊢ result I d c 0 := by
      unfold result
      iintro ⟨%X, H⟩
      iexists X
      isplitr; · ipureintro; exact fun hk => absurd hk (by decide)
      iexact H
    exact (cut_any d outM rows (fun _ _ => rfl) rows_disjoint rows_cover).trans (bigSep_mono fun c _ => h c)
  isplitl [Hk]; · iapply (hkeep false) $$ Hk
  isplitl [Hk']; · iapply (hkeep true) $$ Hk'
  isplitl [Ho]; · iapply hout $$ Ho
  isplitl [Hr Hr']
  · unfold landing
    isplitl [Hr]; · iexact Hr
    iexact Hr'
  isplitl [Hs Hs']
  · isplitl [Hs]; · iapply (cut_send d false) $$ Hs
    iapply (cut_send d true) $$ Hs'
  iexact Htok

/-- A transfer's semaphores at zero. -/
def closed (d : Dev nD) (c : Fin 4) (l : Bool) (k : Fin 3) : sProp 𝕄 := iprop(semVal (sendC d l k c) 0 ∗ semVal (recvC d l k c) 0)

/-- The chunks after their last stage: the buffers whole again, the result computed, all the semaphores at zero. -/
theorem chunks_end (d : Dev nD) :
    (bigSep Finset.univ fun c => chunkAt I d c 7)
      ⊢ iprop(scratch (F := F) d ∗ owns (d : Thread nD τ) outM fullShare (resultOf I d)
        ∗ bigSep Finset.univ fun c : Fin 4 => bigSep Finset.univ fun p : Bool × Fin 3 => closed (F := F) d c p.1 p.2) := by
  unfold chunkAt links
  simp only [bigSep_sep']
  rw [bigSep_congr (s := Finset.univ) (Φ := fun c : Fin 4 => bigSep Finset.univ fun p : Bool × Fin 3 => linkAt (F := F) d c 7 (7 - 1) p)
    (Ψ := fun c => bigSep Finset.univ fun p : Bool × Fin 3 => over (F := F) d c p.1 p.2) fun c _ => bigSep_congr fun p _ => by
      have : ord p.1 p.2 < 7 - 1 := by revert p; decide
      unfold linkAt; rw [if_pos this]]
  unfold over
  rw [show (fun c : Fin 4 => bigSep Finset.univ fun p : Bool × Fin 3 => iprop(anyRecv (F := F) d p.1 p.2 c ∗ anySend (F := F) d p.1 p.2 c
      ∗ semVal (sendC d p.1 p.2 c) 0 ∗ semVal (recvC d p.1 p.2 c) 0))
    = fun c : Fin 4 => bigSep Finset.univ fun p : Bool × Fin 3 => iprop(anyRecv (F := F) d p.1 p.2 c ∗ anySend (F := F) d p.1 p.2 c
      ∗ closed (F := F) d c p.1 p.2) from rfl]
  simp only [bigSep_sep']
  rw [by_link fun l k c => anyRecv (F := F) d l k c, by_link fun l k c => anySend (F := F) d l k c]
  have hkeep (l : Bool) : (bigSep Finset.univ fun c => held I d c 7 l) ⊢ anyOf (F := F) d (keepM l) :=
    (bigSep_mono fun c _ => held_any I d c 7 l).trans (join_any d (keepM l) (chunk l) (fun _ _ => rfl) (chunk_disjoint l) (chunk_cover l))
  have hout : (bigSep Finset.univ fun c => result I d c 7) ⊢ owns (d : Thread nD τ) outM fullShare (resultOf I d) := by
    have h (c : Fin 4) : result I d c 7 ⊢ part (F := F) d outM (rows c) (fun _ => rfl) (actOut I d c) := by
      unfold result
      iintro ⟨%X, %hX, H⟩
      rw [hX rfl]
      iexact H
    exact (bigSep_mono fun c _ => h c).trans (join_parts d outM rows (fun _ _ => rfl) rows_disjoint rows_cover fun c => actOut I d c)
  unfold scratch
  iintro ⟨Hk, Hk', Ho, ⟨Hr, Hr'⟩, ⟨Hs, Hs'⟩, Hz⟩
  isplitr [Ho Hz]
  · isplitl [Hs Hs']
    · isplitl [Hs]; · iapply (join_send d false) $$ Hs
      iapply (join_send d true) $$ Hs'
    isplitl [Hr Hr']
    · isplitl [Hr]
      · iapply (join_recv d false); unfold landing; iexact Hr
      · iapply (join_recv d true); unfold landing; iexact Hr'
    isplitl [Hk]; · iapply (hkeep false) $$ Hk
    iapply (hkeep true) $$ Hk'
  isplitl [Ho]; · iapply hout $$ Ho
  iexact Hz

/-- The body, from launch to exit. -/
theorem wp_body (K : Dev nD × CI → ℕ) (d : Dev nD) {Q : PUnit → sProp 𝕄} :
    iprop(ctx I K ∗ barrier (F := F) d ∗ (bigSep Finset.univ fun c : Fin 4 => bigSep Finset.univ fun p : Bool × Fin 3 => tokens (F := F) d c p.1 p.2)
        ∗ scratch (F := F) d ∗ inputs I d ∗ anyOf (F := F) d outM ∗ owing (F := F) d (O₀ d order))
      ⊢ iprop(((scratch (F := F) d ∗ owns (d : Thread nD τ) outM fullShare (resultOf I d) ∗ inputs I d
            ∗ (bigSep Finset.univ fun c : Fin 4 => bigSep Finset.univ fun p : Bool × Fin 3 => closed (F := F) d c p.1 p.2)
            ∗ semVal (cell d none) 0 ∗ owing (F := F) d 0) -∗ Q ⟨⟩)
          -∗ wpd d (body (F := F)) Q) := by
  rw [body_eq]
  simp only [Prog.lift, Prog.bind_op, Prog.bind_ret]
  unfold scratch
  iintro ⟨#Hctx, Hbar, Htok, ⟨Hs, ⟨Hr, Hr'⟩, Hkeep⟩, Hin, Hout, Ho⟩ Hk
  unfold wpd
  rw [wp_deviceId, wp_bind]
  ihave Hr := (cut_recv d false) $$ Hr
  ihave Hr' := (cut_recv d true) $$ Hr'
  iapply (wp_handshake I K d) $$ [Hbar Hr Hr' Ho]
  · isplitr; · iexact Hctx
    isplitl [Hbar]; · iexact Hbar
    isplitl [Hr]; · iexact Hr
    isplitl [Hr']; · iexact Hr'
    iexact Ho
  iintro ⟨Hz, Hr, Hr', Ho⟩
  ihave Hch := (chunks_start I d) $$ [Hs Hr Hr' Hkeep Hout Htok]
  · isplitl [Hs]; · iexact Hs
    isplitl [Hr Hr']
    · isplitl [Hr]; · iexact Hr
      iexact Hr'
    isplitl [Hkeep]; · iexact Hkeep
    isplitl [Hout]; · iexact Hout
    iexact Htok
  iapply (wp_stages I K d order (fun _ => 0) order_fits) $$ [Hch Hin Ho]
  · isplitr; · iexact Hctx
    isplitl [Hch]; · iexact Hch
    isplitl [Hin]; · iexact Hin
    iexact Ho
  rw [funext order_after]
  iintro ⟨Hch, Hin, Ho⟩
  icases (chunks_end I d) $$ Hch with ⟨Hscr, Hout, Hcl⟩
  iapply Hk
  unfold scratch
  isplitl [Hscr]; · iexact Hscr
  isplitl [Hout]; · iexact Hout
  isplitl [Hin]; · iexact Hin
  isplitl [Hcl]; · iexact Hcl
  isplitl [Hz]; · iexact Hz
  iexact Ho

end Cert.Mlp

end
-- ==== Proof.Launch.lean ====
/-
# The launch

What every device is dealt at launch — the cells' invariants, its positions, the duties it pays, the credit it is owed —
and the run of the whole program.
-/
module

public import proofs.«01_k».proof.Proof.Body
public import proofs.«01_k».proof.Proof.Gen.KernelIdeal.Points
public import Idealize.ShloMosaic.Lib.Pipeline.CollectiveSegs

@[expose] public section

noncomputable section

namespace Cert.Mlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every counter at zero, any generator registers. -/
def s₀ : MemSt nD τ sig (Elt F) := ⟨m, fun _ => 0, ρ⟩

/-- The devices' blocks of the arguments in that memory. -/
def given : Blocks F where
  x d := (win0_0.blk (0 : Fin 1)).view.read (Elt F) ((s₀ m ρ).mem ((d : Thread nD τ).loc main_arg0))
  win k d := match k with
    | 0 => (win0_1.blk (0 : Fin 1)).view.read (Elt F) ((s₀ m ρ).mem ((d : Thread nD τ).loc main_arg1))
    | 1 => (win0_3.blk (0 : Fin 1)).view.read (Elt F) ((s₀ m ρ).mem ((d : Thread nD τ).loc main_arg3))
    | 2 => (win0_5.blk (0 : Fin 1)).view.read (Elt F) ((s₀ m ρ).mem ((d : Thread nD τ).loc main_arg5))
  wout k d := match k with
    | 0 => (win0_2.blk (0 : Fin 1)).view.read (Elt F) ((s₀ m ρ).mem ((d : Thread nD τ).loc main_arg2))
    | 1 => (win0_4.blk (0 : Fin 1)).view.read (Elt F) ((s₀ m ρ).mem ((d : Thread nD τ).loc main_arg4))
    | 2 => (win0_6.blk (0 : Fin 1)).view.read (Elt F) ((s₀ m ρ).mem ((d : Thread nD τ).loc main_arg6))

/-! ## Regrouping -/

/-- A separating conjunction over cells, chunk by chunk and transfer by transfer. -/
theorem by_cell (Φ : CJ → sProp 𝕄) :
    bigSep Finset.univ Φ = bigSep Finset.univ fun c : Fin 4 => bigSep Finset.univ fun p : Bool × Fin 3 =>
      iprop(Φ (p.1, false, p.2, c) ∗ Φ (p.1, true, p.2, c)) := by
  let e : (Fin 4 × (Bool × Fin 3)) × Bool ≃ CJ :=
    ⟨fun q => (q.1.2.1, q.2, q.1.2.2, q.1.1), fun j => ((j.2.2.2, (j.1, j.2.2.1)), j.2.1), fun _ => rfl, fun _ => rfl⟩
  rw [bigSep_univ_equiv e, bigSep_univ_prod, bigSep_univ_prod]
  exact bigSep_congr fun c _ => bigSep_congr fun p _ => by
    rw [bigSep_univ_eq_bigSepL [false, true] (by decide) (by decide), bigSepL_cons_cons, bigSepL_singleton]
    rfl

/-- A separating conjunction over a device's cells: the barrier's, and the transfers'. -/
theorem by_option (Φ : CI → sProp 𝕄) : bigSep Finset.univ Φ = iprop(Φ none ∗ bigSep Finset.univ fun j : CJ => Φ (some j)) := by
  let e : Unit ⊕ CJ ≃ CI :=
    ⟨Sum.elim (fun _ => none) some, fun i => i.elim (.inl ()) .inr, by rintro (_ | _) <;> rfl, by rintro (_ | _) <;> rfl⟩
  rw [bigSep_univ_equiv e, bigSep_univ_sum, bigSep_univ_of_subsingleton ()]
  rfl

/-- Over all devices, what one has of a link its peer may have instead. -/
theorem around (Φ : Dev nD → Fin 4 → Bool × Fin 3 → sProp 𝕄) :
    (bigSep Finset.univ fun d : Dev nD => bigSep Finset.univ fun c : Fin 4 => bigSep Finset.univ fun p : Bool × Fin 3 => Φ d c p)
      = bigSep Finset.univ fun d : Dev nD => bigSep Finset.univ fun c : Fin 4 => bigSep Finset.univ fun p : Bool × Fin 3 => Φ (peer p.1 d) c p := by
  rw [bigSep_univ_comm (fun d c => bigSep Finset.univ fun p : Bool × Fin 3 => Φ d c p),
    bigSep_univ_comm (fun d c => bigSep Finset.univ fun p : Bool × Fin 3 => Φ (peer p.1 d) c p)]
  refine bigSep_congr fun c _ => ?_
  rw [bigSep_univ_comm (fun d p => Φ d c p), bigSep_univ_comm (fun d p => Φ (peer p.1 d) c p)]
  exact bigSep_congr fun p _ => bigSep_univ_equiv (across p.1) fun d => Φ d c p

/-! ## The ghost state -/

variable (I : Blocks F)

/-- All the cells of the protocol. -/
def cellSet : Finset (GSem nD τ sig) := Finset.univ.map ⟨fun p : Dev nD × CI => cell p.1 p.2, cell_injective⟩

/-- The duties of a device's own cells: its barrier's two, each transfer cell's one. -/
abbrev dutyOf (p : Dev nD × (Bool ⊕ CJ)) : GSem nD τ sig × ℕ × Bool :=
  match p.2 with
  | .inl b => (cell p.1 none, 0, b)
  | .inr j => (cell p.1 (some j), 0, false)

/-- Different duties have different names. -/
theorem dutyOf_injective : Function.Injective dutyOf := by
  rintro ⟨d, b | j⟩ ⟨d', b' | j'⟩ h
  · have h1 := cell_eq_iff.mp (congrArg Prod.fst h)
    have h2 : b = b' := congrArg (fun x => x.2.2) h
    have h3 : d = d' := h1.1
    rw [h3, h2]
  · cases (cell_eq_iff.mp (congrArg Prod.fst h)).2
  · cases (cell_eq_iff.mp (congrArg Prod.fst h)).2
  · have h1 := cell_eq_iff.mp (congrArg Prod.fst h)
    have h2 : j = j' := Option.some.inj h1.2
    have h3 : d = d' := h1.1
    rw [h3, h2]

/-- All the duties of the protocol. -/
def dutySet : Finset (GSem nD τ sig × ℕ × Bool) := Finset.univ.map ⟨dutyOf, dutyOf_injective⟩

/-- The ghost state at launch: the pipeline's, and the protocol's. -/
def u₀ : UU := (initOf (Pipeline.cells cfgs cellOf_inj) (Pipeline.launchToks cfgs cellOf_inj), initOf cellSet dutySet)

/-- The tokens of the duties of a device's own cells. -/
def ownDuties (d : Dev nD) : sProp 𝕄 :=
  iprop((dutyTok ER (cell d none) 0 false ∗ dutyTok ER (cell d none) 0 true) ∗ bigSep Finset.univ fun j : CJ => dutyTok ER (cell d (some j)) 0 false)

/-- What the launch's ghost element deals a device. -/
def dealt (d : Dev nD) : sProp 𝕄 :=
  iprop((bigSep Finset.univ fun i : CI => roundState ER (rd I) (cell d i) 0)
    ∗ (bigSep Finset.univ fun i : CI => iprop(atPos ER (cell d i) 0 ∅ 0 ∗ reached ER (cell d i) 0)) ∗ ownDuties (F := F) d)

/-- The protocol's ghost state, dealt out to the devices. -/
theorem deal : BI.own (ER (initOf cellSet dutySet)) ⊢ (|==> bigSep Finset.univ (dealt I) : sProp 𝕄) := by
  have hX (Φ : GSem nD τ sig → sProp 𝕄) : bigSep cellSet Φ = bigSep Finset.univ fun d : Dev nD => bigSep Finset.univ fun i : CI => Φ (cell d i) := by
    unfold cellSet; rw [bigSep_map, bigSep_univ_prod]; rfl
  have hT : bigSep dutySet (fun x => (dutyTok ER x.1 x.2.1 x.2.2 : sProp 𝕄)) = bigSep Finset.univ fun d : Dev nD => ownDuties (F := F) d := by
    unfold dutySet; rw [bigSep_map, bigSep_univ_prod]
    exact bigSep_congr fun d _ => by
      unfold ownDuties
      rw [bigSep_univ_sum, bigSep_univ_eq_bigSepL [false, true] (by decide) (by decide), bigSepL_cons_cons, bigSepL_singleton]
      rfl
  iintro HX
  imod (Rounds.fund ER (rd I) cellSet dutySet) $$ HX with ⟨Hst, Hr, Hat, Htok⟩
  imodintro
  ihave Hst' := (Entails.of_eq (hX fun g => roundState ER (rd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

abbrev ownSems (d : Dev nD) : sProp 𝕄 := Pipeline.ownSems0 (Ix := Unit) (Name := ℕ) (U := UU) (Lvl := ℕ) (Val := Elt F) (τ := τ) jsem d

/-- The one semaphore that is not the kernel's own is the barrier. -/
theorem unscopedSems0_eq (d : Dev nD) : (unscopedSems0 d : sProp 𝕄) = semVal (cell d none) 0 := by
  unfold unscopedSems0; rw [bigSep_eq_bigSepL_of_eq [SemLoc.reg barS] (by decide) (by decide)]; rfl

/-- A device's semaphores at zero become its cells. -/
theorem alloc (d : Dev nD) :
    iprop(ownSems (F := F) d ∗ unscopedSems0 d ∗ dealt I d)
      ⊢ |={Set.univ}=> iprop((bigSep Finset.univ fun i => iprop(∃ κ : ℕ, cellInv ER (rd I) κ (cell d i)))
          ∗ (bigSep Finset.univ fun i => iprop(atPos ER (cell d i) 0 ∅ 0 ∗ reached ER (cell d i) 0)) ∗ ownDuties (F := F) d) := by
  have hz : iprop(ownSems (F := F) d ∗ unscopedSems0 d) ⊢ (bigSep Finset.univ fun i : CI => semVal (cell d i) 0 : sProp 𝕄) := by
    rw [by_option, unscopedSems0_eq]
    unfold ownSems Pipeline.ownSems0
    iintro ⟨H, H'⟩
    isplitl [H']; · iexact H'
    iexact H
  have hinv : iprop((bigSep Finset.univ fun i : CI => semVal (cell d i) 0) ∗ bigSep Finset.univ fun i : CI => roundState ER (rd I) (cell d i) 0)
      ⊢ (|={Set.univ}=> bigSep Finset.univ fun i => iprop(∃ κ : ℕ, cellInv ER (rd I) κ (cell d i)) : sProp 𝕄) := by
    rw [← bigSep_sep']
    exact (bigSep_mono fun i _ => (Rounds.body_intro ER (rd I) (cell d i)).trans inv_alloc).trans (bigSep_fupd _ _)
  unfold dealt
  iintro ⟨Hos, Hus, Hst, Hat, Htok⟩
  ihave Hv := hz $$ [Hos Hus]
  · isplitl [Hos] <;> iassumption
  imod hinv $$ [Hv Hst] with Hinv
  · isplitl [Hv] <;> iassumption
  imodintro
  isplitl [Hinv]; · iexact Hinv
  isplitl [Hat]; · iexact Hat
  iexact Htok

/-- The invariants and marks of every cell. -/
def records (K : Dev nD × CI → ℕ) : sProp 𝕄 :=
  iprop((bigSep Finset.univ fun p : Dev nD × CI => cellInv ER (rd I) (K p) (cell p.1 p.2))
    ∗ bigSep Finset.univ fun p : Dev nD × CI => reached ER (cell p.1 p.2) 0)
instance records_persistent (K : Dev nD × CI → ℕ) : BI.Persistent (records I K) := by unfold records; infer_instance

/-- The duties a device pays. -/
def payDuties (d : Dev nD) : sProp 𝕄 :=
  iprop((dutyTok ER (cell (peer false d) none) 0 false ∗ dutyTok ER (cell (peer true d) none) 0 true)
    ∗ bigSep Finset.univ fun c : Fin 4 => bigSep Finset.univ fun p : Bool × Fin 3 =>
        iprop(dutyTok ER (sendC d p.1 p.2 c) 0 false ∗ dutyTok ER (recvC (peer p.1 d) p.1 p.2 c) 0 false))

/-- The duties of each device's own cells, dealt to the devices that pay them. -/
theorem duties_around : (bigSep Finset.univ fun d : Dev nD => ownDuties (F := F) d) ⊢ bigSep Finset.univ fun d : Dev nD => payDuties (F := F) d := by
  unfold ownDuties payDuties
  simp only [by_cell, bigSep_sep']
  rw [bigSep_univ_equiv (across false) (fun d : Dev nD => (dutyTok ER (cell d none) 0 false : sProp 𝕄)),
    bigSep_univ_equiv (across true) (fun d : Dev nD => (dutyTok ER (cell d none) 0 true : sProp 𝕄)),
    around (fun d c p => (dutyTok ER (recvC d p.1 p.2 c) 0 false : sProp 𝕄))]
  iintro H
  iexact H

/-- What stays with a device beside the records. -/
def kept' (d : Dev nD) : sProp 𝕄 := iprop((bigSep Finset.univ fun i : CI => atPos ER (cell d i) 0 ∅ 0) ∗ payDuties (F := F) d)
/-- What the launch makes of a device's semaphores and ghost state. -/
def stock (d : Dev nD) : sProp 𝕄 := iprop(∃ K, records I K ∗ kept' (F := F) d)

/-- What was dealt by owner, regrouped by payer: the duties of a cell go to the device that pays them. -/
theorem regroup :
    (bigSep Finset.univ fun d : Dev nD => iprop((bigSep Finset.univ fun i => iprop(∃ κ : ℕ, cellInv ER (rd I) κ (cell d i)))
          ∗ (bigSep Finset.univ fun i => iprop(atPos ER (cell d i) 0 ∅ 0 ∗ reached ER (cell d i) 0)) ∗ ownDuties (F := F) d) : sProp 𝕄)
      ⊢ bigSep Finset.univ (stock I) := by
  simp only [bigSep_sep']
  rw [← bigSep_univ_prod (fun p : Dev nD × CI => iprop(∃ κ : ℕ, cellInv ER (rd I) κ (cell p.1 p.2))),
    ← bigSep_univ_prod (fun p : Dev nD × CI => (reached ER (cell p.1 p.2) 0 : sProp 𝕄))]
  have hs (K : Dev nD × CI → ℕ) (d : Dev nD) : iprop(records I K ∗ kept' (F := F) d) ⊢ stock I d := by
    unfold stock
    iintro H
    iexists K; iexact H
  iintro ⟨HI, ⟨Hat, #HR⟩, Htok⟩
  icases (BI.bigSep_exists_pi Finset.univ (fun (p : Dev nD × CI) (κ : ℕ) => (cellInv ER (rd I) κ (cell p.1 p.2) : sProp 𝕄))) $$ HI with ⟨%K, #HI⟩
  ihave Htk := (duties_around (F := F)) $$ Htok
  iapply (bigSep_with_persistent (R := records I K) fun d _ => hs K d)
  isplitr
  · unfold records; isplitl; · iexact HI
    iexact HR
  · unfold kept'
    rw [bigSep_sep']
    isplitl [Hat]; · iexact Hat
    iexact Htk

/-- The cells' invariants, set up from the counters at zero, and each device's stock. -/
theorem glob : (bigSep Finset.univ fun d => iprop(ownSems (F := F) d ∗ unscopedSems0 d ∗ dealt I d) : sProp 𝕄)
    ⊢ |={Set.univ}=> bigSep Finset.univ (stock I) :=
  ((bigSep_mono fun d _ => alloc I d).trans (bigSep_fupd _ _)).trans (BI.fupd_mono (regroup I))

/-! ## The credit at launch -/

/-- All a device's transfers, chunk by chunk. -/
theorem owed_order (d : Dev nD) : owed d order = ∑ c : Fin 4, ∑ p : Bool × Fin 3, tallyOf d p.1 p.2 c := by
  have h1 (ts : List (Fin 4 × Fin 7)) : owed d ts = (ts.map (due d)).sum := by
    induction ts with
    | nil => rfl
    | cons t ts ih => rw [List.map_cons, List.sum_cons, ← ih]; rfl
  have h2 : (order : List (Fin 4 × Fin 7)).toFinset = Finset.univ := by decide
  have h3 : (order : List (Fin 4 × Fin 7)).Nodup := by decide
  rw [h1, ← List.sum_toFinset (due d) h3, h2, Fintype.sum_prod_type]
  refine Finset.sum_congr rfl fun c _ => ?_
  rw [Fintype.sum_prod_type, Fintype.sum_bool, Fin.sum_univ_three, Fin.sum_univ_three, Fin.sum_univ_seven]
  show tallyOf d false 0 c + tallyOf d true 0 c + tallyOf d false 1 c + tallyOf d true 1 c + tallyOf d false 2 c + tallyOf d true 2 c + 0 = _
  rw [add_zero]
  show _ = tallyOf d true 0 c + tallyOf d true 1 c + tallyOf d true 2 c + (tallyOf d false 0 c + tallyOf d false 1 c + tallyOf d false 2 c)
  ac_rfl

/-- The credit a device is owed at launch, transfer by transfer. -/
theorem creds (d : Dev nD) :
    (Pipeline.launchCred (fun d => O₀ d order) d : sProp 𝕄)
      ⊢ iprop(cred (tallyAt (cell d none) () 2)
        ∗ bigSep Finset.univ fun c : Fin 4 => bigSep Finset.univ fun p : Bool × Fin 3 => cred (tallyAt (recvC d p.1 p.2 c) () (amt p.1))) := by
  unfold O₀
  rw [Pipeline.launchCred_add, Pipeline.launchCred_add]
  simp only [owed_order]
  rw [Pipeline.launchCred_sum]
  simp only [Pipeline.launchCred_sum]
  have hb (l : Bool) : (Pipeline.launchCred (fun d => tallyAt (cell (peer l d) none) () 1) d : sProp 𝕄) ⊢ cred (tallyAt (cell d none) () 1) :=
    Pipeline.launchCred_tallyAt (.reg barS) (peer l) (peer l) (peer_peer l) (peer_peer l) () 1 d
  have hr (c : Fin 4) (p : Bool × Fin 3) : (Pipeline.launchCred (fun d => tallyOf d p.1 p.2 c) d : sProp 𝕄)
      ⊢ cred (tallyAt (recvC d p.1 p.2 c) () (amt p.1)) :=
    Pipeline.launchCred_tallyAt (jsem (p.1, true, p.2, c)) (peer p.1) (peer p.1) (peer_peer p.1) (peer_peer p.1) () (amt p.1) d
  iintro ⟨H1, H2, H3⟩
  isplitl [H1 H2]
  · rw [show (tallyAt (cell d none) () 2 : CellTallies nD τ sig Unit) = tallyAt (cell d none) () 1 + tallyAt (cell d none) () 1 from
      (tallyAt_add _ () 1 1).symm]
    iapply (cred_add _ _).2
    isplitl [H1]; · iapply (hb false) $$ H1
    iapply (hb true) $$ H2
  have hr' : (bigSep Finset.univ fun c : Fin 4 => bigSep Finset.univ fun p : Bool × Fin 3 => (Pipeline.launchCred (fun d => tallyOf d p.1 p.2 c) d : sProp 𝕄))
      ⊢ bigSep Finset.univ fun c : Fin 4 => bigSep Finset.univ fun p : Bool × Fin 3 => cred (tallyAt (recvC d p.1 p.2 c) () (amt p.1)) :=
    bigSep_mono fun c _ => bigSep_mono fun p _ => hr c p
  iapply hr' $$ H3

/-! ## The pipeline's side -/

/-- What a device's body starts from, beside its own buffers. -/
def start (d : Dev nD) : sProp 𝕄 :=
  iprop((∃ K, ctx I K) ∗ barrier (F := F) d ∗ bigSep Finset.univ fun c : Fin 4 => bigSep Finset.univ fun p : Bool × Fin 3 => tokens (F := F) d c p.1 p.2)

/-- What a device has before the body, and after it. -/
def before (d : Dev nD) : sProp 𝕄 := iprop(start I d ∗ scratch (F := F) d)
def afterwards (d : Dev nD) : sProp 𝕄 :=
  iprop(scratch (F := F) d ∗ (bigSep Finset.univ fun c : Fin 4 => bigSep Finset.univ fun p : Bool × Fin 3 => closed (F := F) d c p.1 p.2)
    ∗ semVal (cell d none) 0)

/-- A device's stock and its credit are what the body starts with. -/
theorem start_intro (d : Dev nD) :
    iprop(Pipeline.unscopedRestP Pipeline.Prefetch.none cfg0.spec d (fun b => m ((d : Thread nD τ).loc b)) ∗ levAts L lv
        ∗ Pipeline.launchCred (fun d => O₀ d order) d ∗ prngReg d (ρ d) ∗ stock I d)
      ⊢ |={Set.univ}=> iprop(start I d ∗ emp) := by
  iintro ⟨-, #Hlev, Hcr, -, HG⟩
  icases (creds (F := F) d) $$ Hcr with ⟨Hcb, Hcr⟩
  unfold stock records kept' payDuties start barrier tokens ctx
  simp only [by_option, by_cell, bigSep_sep']
  icases HG with ⟨%K, ⟨#Hinv, #Hre⟩, ⟨Hat, Hats, Hatr⟩, ⟨Htf, Htt⟩, Hts, Htr⟩
  imodintro
  isplitl
  · isplitr
    · iexists K
      isplitr; · iexact Hinv
      isplitr; · iexact Hre
      iexact Hlev
    isplitl [Hat Hcb Htf Htt]
    · isplitl [Hat]; · iexact Hat
      isplitl [Hcb]; · iexact Hcb
      isplitl [Htf]; · iexact Htf
      iexact Htt
    isplitl [Hats]; · iexact Hats
    isplitl [Hatr]; · iexact Hatr
    isplitl [Hts]; · iexact Hts
    isplitl [Htr]; · iexact Htr
    iexact Hcr
  · iempintro

/-! ## The body's obligation -/

/-- What the pipeline is told: the arrays at launch, what the body leaves in each staging buffer, and what it owes. -/
def dats (_ : Fin 1) (d : Dev nD) : Dat τ (Elt F) Unit ℕ UU ℕ cfg0 d where
  A w := (s₀ m ρ).mem ((cfg0.win w).arr.view.loc (d : Thread nD τ))
  after w _ := match w with
    | ⟨0, _⟩ => (given m ρ).x d
    | ⟨1, _⟩ => (given m ρ).win 0 d
    | ⟨2, _⟩ => (given m ρ).wout 0 d
    | ⟨3, _⟩ => (given m ρ).win 1 d
    | ⟨4, _⟩ => (given m ρ).wout 1 d
    | ⟨5, _⟩ => (given m ρ).win 2 d
    | ⟨6, _⟩ => (given m ρ).wout 2 d
    | ⟨7, _⟩ => resultOf (given m ρ) d
  Φ t := match t with
    | ⟨0, _⟩ => before (given m ρ) d
    | ⟨_ + 1, _⟩ => afterwards (F := F) d
  q _ := fullShare
  owed t := match t with
    | ⟨0, _⟩ => O₀ d order
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem bigSep_fin3 (Φ : Fin 3 → sProp 𝕄) : bigSep Finset.univ Φ = iprop(Φ 0 ∗ Φ 1 ∗ Φ 2) :=
  bigSep_univ_eq_bigSepL [0, 1, 2] (by decide) (by decide) Φ

/-- An input's staging buffer holds what was fetched into it. -/
theorem before_in (d : Dev nD) (w : Fin cfg0.W) (h : (cfg0.win w).fetch t₀ = true) (X) :
    (dats m ρ 0 d).before w t₀ X = (dats m ρ 0 d).fetched w t₀ X := by unfold Dat.before; rw [if_pos h]

/-- A staging buffer at given contents. -/
abbrev stg (d : Dev nD) (b : Ref sig .tc) (X : b.ty.Contents (Elt F)) : sProp 𝕄 := owns (d : Thread nD τ) (Memref.whole b) fullShare X

set_option maxRecDepth 20000 in
def bodyPre (d : Dev nD) : sProp 𝕄 :=
  iprop(before (given m ρ) d ∗ (dats m ρ 0 d).owesAt () t₀.castSucc
    ∗ (∃ X, stg d cc0_stg0_0 ((dats m ρ 0 d).before (0 : Fin 8) t₀ X)) ∗ (∃ X, stg d cc0_stg1_0 ((dats m ρ 0 d).before (1 : Fin 8) t₀ X))
    ∗ (∃ X, stg d cc0_stg2_0 ((dats m ρ 0 d).before (2 : Fin 8) t₀ X)) ∗ (∃ X, stg d cc0_stg3_0 ((dats m ρ 0 d).before (3 : Fin 8) t₀ X))
    ∗ (∃ X, stg d cc0_stg4_0 ((dats m ρ 0 d).before (4 : Fin 8) t₀ X)) ∗ (∃ X, stg d cc0_stg5_0 ((dats m ρ 0 d).before (5 : Fin 8) t₀ X))
    ∗ (∃ X, stg d cc0_stg6_0 ((dats m ρ 0 d).before (6 : Fin 8) t₀ X)) ∗ (∃ X, stg d cc0_stg7_0 ((dats m ρ 0 d).before (7 : Fin 8) t₀ X)))

set_option maxRecDepth 20000 in
def bodyPost (d : Dev nD) : sProp 𝕄 :=
  iprop(afterwards (F := F) d ∗ (dats m ρ 0 d).owesAt () t₀.succ
    ∗ stg d cc0_stg0_0 ((given m ρ).x d) ∗ stg d cc0_stg1_0 ((given m ρ).win 0 d) ∗ stg d cc0_stg2_0 ((given m ρ).wout 0 d)
    ∗ stg d cc0_stg3_0 ((given m ρ).win 1 d) ∗ stg d cc0_stg4_0 ((given m ρ).wout 1 d) ∗ stg d cc0_stg5_0 ((given m ρ).win 2 d)
    ∗ stg d cc0_stg6_0 ((given m ρ).wout 2 d) ∗ stg d cc0_stg7_0 (resultOf (given m ρ) d))

set_option maxRecDepth 20000 in
theorem body_obligation (d : Dev nD) : BodyObligation (dats (F := F) m ρ 0 d) (defs₀ (F := F)) 𝒱₀ () Set.univ := fun t => by
  rw [fin_N t, bigSep_W0, bigSep_W0]
  show bodyPre m ρ d ⊢ wpd d (body (F := F)) (fun _ => bodyPost m ρ d)
  unfold bodyPre before start
  iintro ⟨⟨⟨⟨%K, #Hctx⟩, Hbar, Htok⟩, Hscr⟩, Ho, ⟨%X0, H0⟩, ⟨%X1, H1⟩, ⟨%X2, H2⟩, ⟨%X3, H3⟩, ⟨%X4, H4⟩, ⟨%X5, H5⟩, ⟨%X6, H6⟩, ⟨%X7, H7⟩⟩
  rw [before_in m ρ d 0 (fetch0_0 t₀), before_in m ρ d 1 (fetch0_1 t₀), before_in m ρ d 2 (fetch0_2 t₀), before_in m ρ d 3 (fetch0_3 t₀),
    before_in m ρ d 4 (fetch0_4 t₀), before_in m ρ d 5 (fetch0_5 t₀), before_in m ρ d 6 (fetch0_6 t₀)]
  unfold Dat.owesAt Pipeline.owesWithin
  icases Ho with ⟨%W, %hW, Ho⟩
  iapply (wp_body (given m ρ) K d) $$ [Hbar Htok Hscr Ho H0 H1 H2 H3 H4 H5 H6 H7]
  · isplitr; · iexact Hctx
    isplitl [Hbar]; · iexact Hbar
    isplitl [Htok]; · iexact Htok
    isplitl [Hscr]; · iexact Hscr
    isplitl [H0 H1 H2 H3 H4 H5 H6]
    · unfold inputs
      rw [bigSep_fin3, bigSep_fin3]
      isplitl [H0]; · iexact H0
      isplitl [H1 H3 H5]
      · isplitl [H1]; · iexact H1
        isplitl [H3]; · iexact H3
        iexact H5
      isplitl [H2]; · iexact H2
      isplitl [H4]; · iexact H4
      iexact H6
    isplitl [H7]; · iexists _; iexact H7
    unfold owing
    iexists W; iexact Ho
  unfold inputs owing bodyPost afterwards Dat.owesAt Pipeline.owesWithin
  rw [bigSep_fin3, bigSep_fin3, show (dats m ρ 0 d).owed t₀.succ = 0 from rfl]
  iintro ⟨Hscr, H7, ⟨H0, ⟨H1, H3, H5⟩, H2, H4, H6⟩, Hcl, Hz, ⟨%W', Ho⟩⟩
  isplitl [Hscr Hcl Hz]
  · isplitl [Hscr]; · iexact Hscr
    isplitl [Hcl]; · iexact Hcl
    iexact Hz
  isplitl [Ho]
  · iexists W'
    isplitr; · ipureintro; exact fun _ _ => Or.inl trivial
    iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-! ## The launch's side conditions -/

theorem jsem_facts : Pipeline.OwnSemFacts cfg0.spec jsem where
  isScoped := by decide
  inj := jsem_injective
  disj := by decide

/-- Every array is held in full. -/
theorem share_eq (d : Dev nD) (w : Fin cfg0.W) : (dats m ρ 0 d).share w = fullShare := by unfold Dat.share; split <;> rfl

/-- A buffer at contents nobody states, as the launch hands it over. -/
theorem any_whole (d : Dev nD) (b : Ref sig .tc) :
    (iprop(∃ f : Buf (Elt F) ((d : Thread nD τ).loc b), ((d : Thread nD τ).loc b) ↦{fullShare} f) : sProp 𝕄) ⊣⊢ iprop(∃ X, stg d b X) := by
  unfold stg owns; simp only [Memref.view_whole, View.read_whole, View.set_whole]
  constructor
  · iintro ⟨%f, H⟩
    iexists f; iexists f
    isplitr; · (ipureintro; rfl)
    iexact H
  · iintro ⟨%X, %f, -, H⟩
    iexists f; iexact H

/-- The scratch buffers, one by one. -/
theorem scratch_eq (d : Dev nD) :
    (Pipeline.scopedRest (Ix := Unit) (Name := ℕ) (U := UU) (Lvl := ℕ) (Val := Elt F) cfg0.spec d : sProp 𝕄) ⊣⊢ scratch (F := F) d := by
  rw [show (Pipeline.scopedRest (Ix := Unit) (Name := ℕ) (U := UU) (Lvl := ℕ) (Val := Elt F) cfg0.spec d : sProp 𝕄) = _ from scopedRest0_eq d]
  unfold scratch
  constructor
  · iintro ⟨H0, H1, H2, H3, H4, H5⟩
    isplitl [H0 H2]
    · isplitl [H0]; · iapply (any_whole d cc0_scratch0).1 $$ H0
      iapply (any_whole d cc0_scratch2).1 $$ H2
    isplitl [H1 H3]
    · isplitl [H1]; · iapply (any_whole d cc0_scratch1).1 $$ H1
      iapply (any_whole d cc0_scratch3).1 $$ H3
    isplitl [H4]; · iapply (any_whole d cc0_scratch4).1 $$ H4
    iapply (any_whole d cc0_scratch5).1 $$ H5
  · iintro ⟨⟨H0, H2⟩, ⟨H1, H3⟩, H4, H5⟩
    isplitl [H0]; · iapply (any_whole d cc0_scratch0).2 $$ H0
    isplitl [H1]; · iapply (any_whole d cc0_scratch1).2 $$ H1
    isplitl [H2]; · iapply (any_whole d cc0_scratch2).2 $$ H2
    isplitl [H3]; · iapply (any_whole d cc0_scratch3).2 $$ H3
    isplitl [H4]; · iapply (any_whole d cc0_scratch4).2 $$ H4
    iapply (any_whole d cc0_scratch5).2 $$ H5

/-- What the region hands the body is what it starts with; -/
theorem phi_intro (d : Dev nD) :
    iprop(start (given m ρ) d ∗ Pipeline.prefHeld Pipeline.Prefetch.none d (fun _ => fullShare.right) (fun k => k.elim0) ∗ Pipeline.scopedRest cfg0.spec d)
      ⊢ (dats m ρ 0 d).Φ 0 := by
  rw [show (dats m ρ 0 d).Φ 0 = before (given m ρ) d from rfl]
  unfold before
  iintro ⟨Hs, -, Hr⟩
  isplitl [Hs]; · iexact Hs
  iapply (scratch_eq d).1 $$ Hr

/-- what the body ends with is what the region takes back. -/
theorem phi_exit (d : Dev nD) :
    (dats m ρ 0 d).Φ (Fin.last cfg0.N) ⊢ iprop(unscopedSems0 d ∗ ownSems (F := F) d ∗ Pipeline.scopedRest cfg0.spec d) := by
  rw [show (dats m ρ 0 d).Φ (Fin.last cfg0.N) = afterwards (F := F) d from rfl, unscopedSems0_eq]
  unfold ownSems Pipeline.ownSems0 afterwards closed
  rw [by_cell (fun j => semVal ((d : Thread nD τ), jsem j) 0)]
  iintro ⟨Hr, Hcl, Hz⟩
  isplitl [Hz]; · iexact Hz
  isplitl [Hcl]; · iexact Hcl
  iapply (scratch_eq d).2 $$ Hr

/-- A device owes its peers' barriers and its transfers' cells, and nothing else. -/
theorem O₀_pos {d : Dev nD} {g : GSem nD τ sig} {u : Unit} (h : 0 < O₀ d order g u) :
    (∃ l, g = cell (peer l d) none) ∨ ∃ l k c, g = recvC (peer l d) l k c := by
  unfold O₀ at h
  rw [Pi.add_apply, Finsupp.add_apply, Pi.add_apply, Finsupp.add_apply, tallyAt_apply, tallyAt_apply] at h
  by_cases h1 : g = cell (peer false d) none
  · exact Or.inl ⟨false, h1⟩
  by_cases h2 : g = cell (peer true d) none
  · exact Or.inl ⟨true, h2⟩
  rw [if_neg fun h' => h1 h'.1, if_neg fun h' => h2 h'.1, Nat.zero_add, Nat.zero_add] at h
  obtain ⟨t, -, l, k, -, hg⟩ := owed_pos h
  exact Or.inr ⟨l, k, t.1, hg⟩

/-- A semaphore that is not the protocol's has level zero. -/
theorem lv_other (d : Dev nD) (s : SemLoc sig) (h : ∀ i, csem i ≠ s) (u : Unit) : lv ((d : Thread nD τ), s) u = 0 := by
  unfold lv dec Function.partialInv
  rw [dif_neg fun ⟨i, hi⟩ => h i hi]

/-- The pipeline's own semaphores are waited for below everything. -/
theorem mayWait_staging (d : Dev nD) (s : SemLoc sig) (h : ∀ i, csem i ≠ s) (O : CellTallies nD τ sig Unit) (hO : O = O₀ d order ∨ O = 0) :
    (levAts L lv : sProp 𝕄) ⊢ MayWait (d : Thread nD τ) s () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨l, rfl⟩ | ⟨l, k, c, rfl⟩ <;> rw [L_tc] <;> exact Finset.mem_singleton_self _)
      (fun p hp => by rw [Finset.mem_singleton.mp hp, lv_other d s h])
      (fun g u hg => by
        rcases O₀_pos hg with ⟨l, rfl⟩ | ⟨l, k, c, rfl⟩
        · rw [lv_bar]; exact Nat.one_pos
        · rw [lv_recv]; omega)
  · rw [MayWait_zero]; iintro -; iempintro

/-- So the pipeline may wait for its own copies: their semaphores are below everything that is owed. -/
theorem waits (d : Dev nD) : (levAts L lv : sProp 𝕄) ⊢ Pipeline.cellsWaits cfgs (dats m ρ) () 0 d :=
  Pipeline.cellsWaits_intro cfgs (dats m ρ) () 0 d fun w s t =>
    mayWait_staging d _ (fun i => by
      rcases i with _ | j
      · exact fun h => by cases h
      · exact jsem_facts.disj j w s) _ (by
      rcases t with ⟨_ | _, ht⟩
      · exact Or.inl rfl
      · exact Or.inr rfl)

/-! ## The run -/

/-- What array `w` of device `d` ends with. -/
def finalA (d : Dev nD) (w : Fin cfg0.W) : Buf (Elt F) ((cfg0.win w).arr.view.loc (d : Thread nD τ)) := (dats m ρ 0 d).arrAt w cfg0.N

/-- Every array of every device ends with that. -/
def QC : PUnit × MemSt nD τ sig (Elt F) → Prop := fun r =>
  ∀ d : Dev nD, ∀ w : Fin cfg0.W, r.2.mem ((cfg0.win w).arr.view.loc (d : Thread nD τ)) = finalA m ρ d w

set_option maxRecDepth 100000 in
/-- On the four devices, over any float values and from any memory with the counters at zero, every fair run of the
    program ends; each window's array then holds what was computed for it and every counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ jsem_facts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => O₀ d order) (howed₀ := fun _ => rfl) (howedN := fun _ => rfl)
    (L := L) (lv := lv) (hL := L_of_ne) (hwaits := waits m ρ)
    (G := dealt (given m ρ)) (G' := stock (given m ρ)) (u₀ := u₀)
    (hu₀ := by
      unfold u₀
      iintro Hu
      icases (ownU_pair _ _) $$ Hu with ⟨HP, HX⟩
      imod (deal (given m ρ)) $$ HX with HG
      imodintro
      isplitl [HP] <;> iassumption)
    (hglob := glob (given m ρ))
    (hA := fun _ _ => rfl) (hpf := fun _ k => k.elim0)
    (X := start (given m ρ)) (Y := fun d => unscopedSems0 d) (Z := fun _ => iprop(emp))
    (hX := start_intro m ρ (given m ρ)) (hin := phi_intro m ρ) (hout := phi_exit m ρ)
    (QY := fun d s => ∀ sm : SemLoc sig, sm.isScoped .tc = false → s.sem ((d.tc : Thread nD τ), sm) = 0)
    (hY := fun d s' => by
      iintro ⟨Hu, -, HSI⟩
      iapply (Pipeline.unscopedSems0_read (X := unscopedSems0 d) (c := d) fupd_intro s')
      isplitl [Hu] <;> iassumption)
    (hQ := fun _ h hs => ⟨fun d w => (h d).1 w, sem_eq_zero hs fun d => (h d).2.2⟩)

end Cert.Mlp

end
-- ==== Proof.Value.lean ====
/-
# What the arrays end with

The seven arguments end as they were; the result array ends with what `resultOf` says of the blocks the devices were
given, which are the argument arrays themselves.
-/
module

public import proofs.«01_k».proof.Proof.Launch
public import Idealize.ShloMosaic.Lib.Pipeline.Value

@[expose] public section

noncomputable section

namespace Cert.Mlp

open Cert.KernelIdeal Cert.KernelIdeal.Gen
open Idealize.ShloMosaic
open Idealize.ShloMosaic.TcCoe
open Idealize.SL.Sem
open Idealize.ShloMosaic.Pipeline (Dat)

variable {F : FTy → Type} [FloatOps F]
variable (m : (ℓ : Loc nD τ sig) → Buf (Elt F) ℓ) (ρ : Dev nD → PrngReg)

/-- The blocks the devices are given are the argument arrays. -/
def argBlocks : Blocks F where
  x d := m ((d : Thread nD τ).loc main_arg0)
  win k d := match k with
    | 0 => m ((d : Thread nD τ).loc main_arg1)
    | 1 => m ((d : Thread nD τ).loc main_arg3)
    | 2 => m ((d : Thread nD τ).loc main_arg5)
  wout k d := match k with
    | 0 => m ((d : Thread nD τ).loc main_arg2)
    | 1 => m ((d : Thread nD τ).loc main_arg4)
    | 2 => m ((d : Thread nD τ).loc main_arg6)

/-- A window's one block is its whole array. -/
theorem given_eq : given m ρ = argBlocks m := by
  unfold given argBlocks
  congr 1
  · funext d
    exact Memref.read_access_unit_zero (Elt F) main_arg0 (funext fun a => by fin_cases a <;> decide) (fun a => by fin_cases a <;> decide) _
  · funext k d
    match k with
    | 0 => exact Memref.read_access_unit_zero (Elt F) main_arg1 (funext fun a => by fin_cases a <;> decide) (fun a => by fin_cases a <;> decide) _
    | 1 => exact Memref.read_access_unit_zero (Elt F) main_arg3 (funext fun a => by fin_cases a <;> decide) (fun a => by fin_cases a <;> decide) _
    | 2 => exact Memref.read_access_unit_zero (Elt F) main_arg5 (funext fun a => by fin_cases a <;> decide) (fun a => by fin_cases a <;> decide) _
  · funext k d
    match k with
    | 0 => exact Memref.read_access_unit_zero (Elt F) main_arg2 (funext fun a => by fin_cases a <;> decide) (fun a => by fin_cases a <;> decide) _
    | 1 => exact Memref.read_access_unit_zero (Elt F) main_arg4 (funext fun a => by fin_cases a <;> decide) (fun a => by fin_cases a <;> decide) _
    | 2 => exact Memref.read_access_unit_zero (Elt F) main_arg6 (funext fun a => by fin_cases a <;> decide) (fun a => by fin_cases a <;> decide) _

/-- The one write-back writes the result, whole. -/
theorem flushed_out (d : Dev nD) (t : Fin cfg0.N) :
    (dats m ρ 0 d).flushed 7 t = ((cfg0.win 7).blk t).view.read (Elt F) (resultOf (given m ρ) d) := by
  obtain rfl := fin_N t
  show (cfg0.win 7).cut (grid0.coords t₀) ((dats m ρ 0 d).after 7 t₀) = _
  have hz : (fun a => win0_7.index t₀ a * main_v1.ty.shape.size a) = fun _ => 0 := funext fun a => by fin_cases a <;> decide
  exact (Memref.read_access_unit_zero (Elt F) main_v1 hz (fun a => by rw [congrFun hz a]; simp) (resultOf (given m ρ) d)).symm

/-- So the result array ends with it. -/
theorem final_out (d : Dev nD) : (dats m ρ 0 d).arrAt 7 cfg0.N = resultOf (given m ρ) d :=
  (dats m ρ 0 d).arrAt_eq_of_cover 7 (resultOf (given m ρ) d) (fun t _ => flushed_out m ρ d t) fun i =>
    ⟨t₀, flush0_7 t₀, by
      show i ∈ ((View.whole main_v1).slice (win0_7.rect t₀)).set
      rw [View.set_slice_whole, Rect.mem_set_unit]
      intro a
      have h0 : win0_7.kind.off (win0_7.index t₀ a) (win0_7.size a) = 0 := by fin_cases a <;> decide
      have h1 : win0_7.xsize (grid0.coords t₀) a = main_v1.ty.shape.size a := by fin_cases a <;> decide
      exact ⟨h0.trans_le (Nat.zero_le _), (i a).isLt.trans_eq (by rw [h0, h1, Nat.zero_add])⟩⟩

/-- The run, read: the result of the argument blocks, the arguments as they were, every counter at zero. -/
theorem run_value : θ_run defs (onTc (τ := τ) (main (F := F))) ⟨m, fun _ => 0, ρ⟩ (fun r => (∀ d : Dev nD,
      r.2.mem ((d : Thread nD τ).loc main_v1) = resultOf (argBlocks m) d
      ∧ r.2.mem ((d : Thread nD τ).loc main_arg0) = m ((d : Thread nD τ).loc main_arg0)
      ∧ r.2.mem ((d : Thread nD τ).loc main_arg1) = m ((d : Thread nD τ).loc main_arg1)
      ∧ r.2.mem ((d : Thread nD τ).loc main_arg2) = m ((d : Thread nD τ).loc main_arg2)
      ∧ r.2.mem ((d : Thread nD τ).loc main_arg3) = m ((d : Thread nD τ).loc main_arg3)
      ∧ r.2.mem ((d : Thread nD τ).loc main_arg4) = m ((d : Thread nD τ).loc main_arg4)
      ∧ r.2.mem ((d : Thread nD τ).loc main_arg5) = m ((d : Thread nD τ).loc main_arg5)
      ∧ r.2.mem ((d : Thread nD τ).loc main_arg6) = m ((d : Thread nD τ).loc main_arg6))
      ∧ r.2.sem = fun _ => 0) :=
  (θ_run defs _ _).mono (fun r h => ⟨fun d =>
      have hi (w : Fin cfg0.W) (hw : (cfg0.win w).isOut = false) :
          r.2.mem ((cfg0.win w).arr.view.loc (d : Thread nD τ)) = m ((cfg0.win w).arr.view.loc (d : Thread nD τ)) :=
        (h.1 d w).trans ((dats m ρ 0 d).arrAt_in w hw _)
      ⟨((h.1 d 7).trans (final_out m ρ d)).trans (by rw [given_eq]),
        hi 0 rfl, hi 1 rfl, hi 2 rfl, hi 3 rfl, hi 4 rfl, hi 5 rfl, hi 6 rfl⟩, h.2⟩)
    (run_main m ρ)

/-- The arguments end as they were, every counter at zero. -/
theorem run_frame : θ_run defs (onTc (τ := τ) (main (F := F))) ⟨m, fun _ => 0, ρ⟩ (fun r => (∀ d : Dev nD,
      r.2.mem ((d : Thread nD τ).loc main_arg0) = m ((d : Thread nD τ).loc main_arg0)
      ∧ r.2.mem ((d : Thread nD τ).loc main_arg1) = m ((d : Thread nD τ).loc main_arg1)
      ∧ r.2.mem ((d : Thread nD τ).loc main_arg2) = m ((d : Thread nD τ).loc main_arg2)
      ∧ r.2.mem ((d : Thread nD τ).loc main_arg3) = m ((d : Thread nD τ).loc main_arg3)
      ∧ r.2.mem ((d : Thread nD τ).loc main_arg4) = m ((d : Thread nD τ).loc main_arg4)
      ∧ r.2.mem ((d : Thread nD τ).loc main_arg5) = m ((d : Thread nD τ).loc main_arg5)
      ∧ r.2.mem ((d : Thread nD τ).loc main_arg6) = m ((d : Thread nD τ).loc main_arg6))
      ∧ r.2.sem = fun _ => 0) :=
  (θ_run defs _ _).mono (fun _ h => ⟨fun d => (h.1 d).2, h.2⟩) (run_value m ρ)

end Cert.Mlp

end
-- ==== Proof.Layers.lean ====
/-
# The three layers over the extended reals

A device's chunks of activations are its part of the whole activations, before and after every layer: the two halves of
each contraction are on the two devices a link joins.
-/
module

public import proofs.«01_k».proof.Proof.Body
public import proofs.«01_k».proof.Proof.Gen.ReferenceIdeal
public import Idealize.ShloMosaic.Lib.MatmulPlain
public import Idealize.ShloMosaic.Lib.StackMember
public import Idealize.ShloMosaic.Lib.ValueIdx
public import Idealize.ShloMosaic.Lib.Pipeline.Value
public import Idealize.ShloMosaic.Lib.Layout

@[expose] public section

noncomputable section

namespace Cert.Mlp

open Cert.KernelIdeal Cert.KernelIdeal.Gen
open Idealize.ShloMosaic Idealize.ShloMosaic.ValueIdx
open scoped BigOperators

/-! ## Halves -/

/-- Position `i` of half `q` of a dimension of `n + n`. -/
def half {N n : Nat} (h : N = n + n) (q : Fin 2) (i : Fin n) : Fin N :=
  ⟨q.val * n + i.val, by
    have hq := q.isLt; have hi := i.isLt
    have : q.val * n ≤ n := (Nat.mul_le_mul_right n (by omega : q.val ≤ 1)).trans_eq (Nat.one_mul n)
    omega⟩

/-- A sum over the dimension is the sum over one half plus the sum over the other, whichever comes first. -/
theorem sum_halves {N n : Nat} (h : N = n + n) (q : Fin 2) (f : Fin N → EReal) :
    ∑ i, f i = (∑ i : Fin n, f (half h q i)) + ∑ i : Fin n, f (half h (1 - q) i) := by
  subst h
  have h0 (i : Fin n) : half rfl 0 i = Fin.castAdd n i := Fin.ext (by simp [half])
  have h1 (i : Fin n) : half rfl 1 i = Fin.natAdd n i := Fin.ext (by simp [half, add_comm])
  rw [Fin.sum_univ_add]
  fin_cases q
  · simp [h0, h1]
  · simp [h0, h1, add_comm]

/-! ## Where a device is in the mesh -/

/-- The device's coordinate along `x`, and along `y`. -/
def xOf (d : Dev nD) : Fin 2 := ⟨d.val / 2, by have := d.isLt; have : nD = 4 := rfl; omega⟩
def yOf (d : Dev nD) : Fin 2 := ⟨d.val % 2, Nat.mod_lt _ (by decide)⟩

/-- Link `false` changes the coordinate along `y` alone, link `true` the one along `x`. -/
theorem peer_y : ∀ d : Dev nD, xOf (peer false d) = xOf d ∧ yOf (peer false d) = 1 - yOf d := by decide
theorem peer_x : ∀ d : Dev nD, xOf (peer true d) = 1 - xOf d ∧ yOf (peer true d) = yOf d := by decide

/-- Row `i` of chunk `c`. -/
def row (c : Fin 4) (i : Fin 128) : Fin 512 := ⟨128 * c.val + i.val, by omega⟩

/-! ## The kernel's steps at an index -/

/-- The product with a block of `Win`, at an index: a sum over the block's 256 rows; -/
theorem prodIn_apply (x : FVec Ideal S128x256 .f32) (w : Vec Ideal S256x512 .f32) (i : Fin 128) (j : Fin 512) :
    prodIn x w (ix2 i j) = ∑ t : Fin 256, x (ix2 i t) * (w (ix2 t j) : EReal) := by
  unfold prodIn
  rw [shapeCast_self]
  refine (Ideal.matmul_plain_apply none x w (constant S128x512 .f32 0x00000000#32) i j).trans ?_
  rw [constant_apply, Ideal.ofBits_zero_f32, zero_add]

/-- with a block of `Wout`: over its 512 rows. -/
theorem prodOut_apply (h : FVec Ideal S128x512 .f32) (w : Vec Ideal S512x256 .f32) (i : Fin 128) (j : Fin 256) :
    prodOut h w (ix2 i j) = ∑ t : Fin 512, h (ix2 i t) * (w (ix2 t j) : EReal) := by
  unfold prodOut
  rw [shapeCast_self]
  refine (Ideal.matmul_plain_apply none h w (constant S128x256 .f32 0x00000000#32) i j).trans ?_
  rw [constant_apply, Ideal.ofBits_zero_f32, zero_add]

/-- `relu` is the larger of the element and zero. -/
theorem relu_apply (h : FVec Ideal S128x512 .f32) (j : S128x512.Idx) : relu h j = max (h j) 0 := by
  unfold relu
  rw [maximumf_apply]
  exact congrArg (max (h j)) Ideal.ofBits_zero_f32

/-- Over the extended reals rounding changes nothing: what is kept plus what was sent is the sum of the two. -/
theorem sumIn_eq (p q : FVec Ideal S128x512 .f32) (j : S128x512.Idx) : sumIn (kept false p) (sent false q) j = p j + q j := by
  show shapeCast S128x512 (shapeCast S1x128x512 p _) _ j + shapeCast S128x512 (shapeCast S1x128x512 q _) _ j = _
  rw [shapeCast_shapeCast, shapeCast_shapeCast]

theorem sumOut_eq (p q : FVec Ideal S128x256 .f32) (j : S128x256.Idx) : sumOut (kept true p) (sent true q) j = p j + q j := by
  show shapeCast S128x256 (shapeCast S1x128x256 p _) _ j + shapeCast S128x256 (shapeCast S1x128x256 q _) _ j = _
  rw [shapeCast_shapeCast, shapeCast_shapeCast]

/-! ## The reference's layer -/

/-- The whole hidden activations, and the whole activations after the layer. -/
def hidden (a : FVec Ideal Cert.ReferenceIdeal.S512x512 .f32) (w : FVec Ideal Cert.ReferenceIdeal.S512x1024 .f32) :
    FVec Ideal Cert.ReferenceIdeal.S512x1024 .f32 :=
  maximumf (Host.dotGeneral Cert.ReferenceIdeal.dot_S512x512_S512x1024_S512x1024_1_0_0_1_n_n none a w)
    (broadcastInDim Cert.ReferenceIdeal.S512x1024 ![] Cert.ReferenceIdeal.Gen.bcast_S_S512x1024
      (constant Cert.ReferenceIdeal.S_ .f32 0x00000000#32))

def layer (a : FVec Ideal Cert.ReferenceIdeal.S512x512 .f32) (w : FVec Ideal Cert.ReferenceIdeal.S512x1024 .f32)
    (v : FVec Ideal Cert.ReferenceIdeal.S1024x512 .f32) : FVec Ideal Cert.ReferenceIdeal.S512x512 .f32 :=
  Host.dotGeneral Cert.ReferenceIdeal.dot_S512x1024_S1024x512_S512x512_1_0_0_1_n_n none (hidden a w) v

variable (a : FVec Ideal Cert.ReferenceIdeal.S512x512 .f32) (w : FVec Ideal Cert.ReferenceIdeal.S512x1024 .f32)
  (v : FVec Ideal Cert.ReferenceIdeal.S1024x512 .f32)

/-- The whole hidden activations at an index; -/
theorem hidden_apply (i : Fin 512) (j : Fin 1024) :
    hidden a w (ix2 i j) = max (∑ t : Fin 512, a (ix2 i t) * w (ix2 t j)) 0 := by
  unfold hidden
  rw [maximumf_apply]
  exact congrArg₂ max (StackMember.dotGeneral_plain_apply none a w i j) Ideal.ofBits_zero_f32

/-- and the whole output. -/
theorem layer_apply (i j : Fin 512) : layer a w v (ix2 i j) = ∑ t : Fin 1024, hidden a w (ix2 i t) * v (ix2 t j) :=
  StackMember.dotGeneral_plain_apply none (hidden a w) v i j

/-! ## One layer -/

variable (I : Blocks Ideal)

/-- The devices' chunks `b` are their parts of the whole activations `a`. -/
def PartsOf (b : Dev nD → Fin 4 → FVec Ideal S128x256 .f32) : Prop :=
  ∀ d c i j, b d c (ix2 i j) = a (ix2 (row c i) (half rfl (yOf d) j))

/-- The devices' blocks of layer `k` are their parts of the whole matrices. -/
structure WeightsOf (k : Fin 3) : Prop where
  win : ∀ d t j, (I.win k d (ix2 t j) : EReal) = w (ix2 (half rfl (yOf d) t) (half rfl (xOf d) j))
  wout : ∀ d t j, (I.wout k d (ix2 t j) : EReal) = v (ix2 (half rfl (xOf d) t) (half rfl (yOf d) j))

variable {a w v I} {k : Fin 3} {b : Dev nD → Fin 4 → FVec Ideal S128x256 .f32}

/-- A device's hidden sum is its part of the whole hidden activations. -/
theorem hidden_part (hb : PartsOf a b) (hw : WeightsOf w v I k) (d : Dev nD) (c : Fin 4) (i : Fin 128) (j : Fin 512) :
    relu (sumIn (kept false (phOf I k b d c)) (sent false (phOf I k b (peer false d) c))) (ix2 i j)
      = hidden a w (ix2 (row c i) (half rfl (xOf d) j)) := by
  rw [relu_apply, sumIn_eq, hidden_apply, sum_halves (n := 256) rfl (yOf d)]
  unfold phOf
  rw [prodIn_apply, prodIn_apply]
  simp only [hb _ _ _ _, hw.win, (peer_y d).1, (peer_y d).2]

/-- A layer takes the parts of the whole activations to the parts of the next. -/
theorem layer_part (hb : PartsOf a b) (hw : WeightsOf w v I k) : PartsOf (layer a w v) (outOfLayer I k b) := by
  intro d c i j
  unfold outOfLayer
  rw [sumOut_eq, layer_apply, sum_halves (n := 512) rfl (xOf d)]
  unfold poOf
  rw [prodOut_apply, prodOut_apply]
  simp only [hidden_part hb hw, hw.wout, (peer_x d).1, (peer_x d).2]

/-! ## All three -/

/-- The rows of a chunk of a block. -/
theorem rows_emb (c : Fin 4) (i : Fin 128) (j : Fin 256) :
    (rows c).emb (ix2 i j : S128x256.Idx) = (ix2 (row c i) j : S512x256.Idx) := by
  funext e
  apply Fin.ext
  rw [Rect.emb_apply]
  match e with
  | ⟨0, _⟩ => show 128 * c.val + 1 * i.val = 128 * c.val + i.val; omega
  | ⟨1, _⟩ => show 0 + 1 * j.val = j.val; omega

/-- The chunks a device starts with are its part of `x`. -/
theorem start_part (hx : ∀ d i j, (I.x d (ix2 i j) : EReal) = a (ix2 i (half rfl (yOf d) j))) : PartsOf a (act0 I) := by
  intro d c i j
  unfold act0
  rw [shapeCast_self, rows_emb]
  exact hx d (row c i) j

/-- What a device's result array ends with is its part of the reference's result. -/
theorem result_part {w₁ w₂ w₃ : FVec Ideal Cert.ReferenceIdeal.S512x1024 .f32}
    {v₁ v₂ v₃ : FVec Ideal Cert.ReferenceIdeal.S1024x512 .f32}
    (hx : ∀ d i j, (I.x d (ix2 i j) : EReal) = a (ix2 i (half rfl (yOf d) j)))
    (h₁ : WeightsOf w₁ v₁ I 0) (h₂ : WeightsOf w₂ v₂ I 1) (h₃ : WeightsOf w₃ v₃ I 2) (d : Dev nD) (i : Fin 512) (j : Fin 256) :
    (resultOf I d (ix2 i j) : EReal) = layer (layer (layer a w₁ v₁) w₂ v₂) w₃ v₃ (ix2 i (half rfl (yOf d) j)) := by
  let c : Fin 4 := ⟨i.val / 128, by omega⟩
  let i' : Fin 128 := ⟨i.val % 128, by omega⟩
  have hi : i = row c i' := Fin.ext (by simp only [row, c, i']; omega)
  rw [hi, ← rows_emb]
  unfold resultOf
  rw [Rect.glue_emb rows rows_cover rows_disjoint]
  exact layer_part (layer_part (layer_part (start_part hx) h₁) h₂) h₃ d c i' j

/-! ## The blocks of the whole arrays -/

/-- A block of a matrix, at an index: the matrix at the block's place. -/
theorem block_at {n₀ n₁ N₀ N₁ : Nat} {parts : Fin 2 → Nat} (p : (e : Fin 2) → Fin (parts e))
    (h : Layout.TilesN ⟨2, ![n₀, n₁]⟩ ⟨2, ![N₀, N₁]⟩ parts) (u : (⟨2, ![N₀, N₁]⟩ : Shape).Idx → EReal)
    (i : Fin n₀) (j : Fin n₁) (i' : Fin N₀) (j' : Fin N₁)
    (hi : i'.val = (p 0).val * n₀ + i.val) (hj : j'.val = (p 1).val * n₁ + j.val) :
    Layout.blockN ⟨2, ![n₀, n₁]⟩ ⟨2, ![N₀, N₁]⟩ p u h (ix2 i j) = u (ix2 i' j') := by
  rw [Layout.blockN_apply]
  congr 1
  funext e
  apply Fin.ext
  match e with
  | ⟨0, _⟩ => exact hi.symm
  | ⟨1, _⟩ => exact hj.symm

/-- Where the mesh coordinates put a device's block along a dimension cut by `x`, by `y`, or not at all. -/
theorem lin_x : ∀ d : Dev nD, Layout.meshLin [2, 2] d.val [0] = (xOf d).val := by decide
theorem lin_y : ∀ d : Dev nD, Layout.meshLin [2, 2] d.val [1] = (yOf d).val := by decide

/-- A device's part of activations, cut along columns by `y`; -/
theorem block_act (d : Dev nD) (u : (⟨2, ![512, 512]⟩ : Shape).Idx → EReal) (i : Fin 512) (j : Fin 256) :
    Layout.blockN ⟨2, ![512, 256]⟩ ⟨2, ![512, 512]⟩ (Layout.meshBlock [2, 2] ![[], [1]] d) u (by decide) (ix2 i j)
      = u (ix2 i (half rfl (yOf d) j)) :=
  block_at _ _ u i j _ _ (by rw [Layout.meshBlock_val]; exact ((Nat.zero_mul 512).symm ▸ (Nat.zero_add _).symm))
    (by rw [Layout.meshBlock_val]; exact congrArg (· * 256 + j.val) (lin_y d).symm)

/-- of `Win`, cut along rows by `y` and columns by `x`; -/
theorem block_win (d : Dev nD) (u : (⟨2, ![512, 1024]⟩ : Shape).Idx → EReal) (i : Fin 256) (j : Fin 512) :
    Layout.blockN ⟨2, ![256, 512]⟩ ⟨2, ![512, 1024]⟩ (Layout.meshBlock [2, 2] ![[1], [0]] d) u (by decide) (ix2 i j)
      = u (ix2 (half rfl (yOf d) i) (half rfl (xOf d) j)) :=
  block_at _ _ u i j _ _ (by rw [Layout.meshBlock_val]; exact congrArg (· * 256 + i.val) (lin_y d).symm)
    (by rw [Layout.meshBlock_val]; exact congrArg (· * 512 + j.val) (lin_x d).symm)

/-- and of `Wout`, cut along rows by `x` and columns by `y`. -/
theorem block_wout (d : Dev nD) (u : (⟨2, ![1024, 512]⟩ : Shape).Idx → EReal) (i : Fin 512) (j : Fin 256) :
    Layout.blockN ⟨2, ![512, 256]⟩ ⟨2, ![1024, 512]⟩ (Layout.meshBlock [2, 2] ![[0], [1]] d) u (by decide) (ix2 i j)
      = u (ix2 (half rfl (xOf d) i) (half rfl (yOf d) j)) :=
  block_at _ _ u i j _ _ (by rw [Layout.meshBlock_val]; exact congrArg (· * 512 + i.val) (lin_x d).symm)
    (by rw [Layout.meshBlock_val]; exact congrArg (· * 256 + j.val) (lin_y d).symm)

end Cert.Mlp

end
-- ==== Proof.lean ====
/-
# The claims

`frame` of the kernel at both float instances and the values it ends with come from one run (`run_value`); the reference
is a straight line of host operations, whose run is read back and compared with it part by part.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Value
public import proofs.«01_k».proof.Proof.Layers
public import Idealize.ShloMosaic.Lib.Quiescent

@[expose] public section

noncomputable section

namespace Cert.Proof

open Idealize.ShloMosaic Idealize.ShloMosaic.TcCoe Idealize.ShloMosaic.ValueIdx Idealize.SL.Sem

/-- The kernel's body table is one term in both of its printed forms: each label is, so the tables are. -/
theorem body_table {F : FTy → Type} [FloatOps F] : Cert.Kernel.defs₀ (F := F) = Cert.KernelIdeal.defs₀ (F := F) := by
  unfold Cert.Kernel.defs₀ Cert.KernelIdeal.defs₀
  refine congrArg Defs.onTc (funext fun l => funext fun x => ?_)
  match l, x with
  | 0, (t, s) => rfl

theorem table {F : FTy → Type} [FloatOps F] : Cert.Kernel.defs (F := F) = Cert.KernelIdeal.defs (F := F) :=
  congrArg (Pipeline.defs Cert.KernelIdeal.pcfgs) body_table

/-- So the run of the ideal form, which holds at any floats, is the kernel's. -/
theorem frame_kernel : Cert.quiescent_Kernel := fun m ρ _ => by
  rw [table]
  exact Cert.Mlp.run_frame (F := Bits) m ρ

theorem frame_ideal : Cert.quiescent_KernelIdeal := fun m ρ _ => Cert.Mlp.run_frame (F := Ideal) m ρ

/-- The reference has no semaphores. -/
theorem frame_reference : Cert.quiescent_ReferenceIdeal := fun m ρ _ =>
  (θ_run Cert.ReferenceIdeal.defs _ _).mono (fun r h => ⟨fun d => (h d).2, sem_eq_zero_of_no_sems (by decide) r.2⟩)
    (Cert.ReferenceIdeal.Value.run (F := Ideal) m ρ)

/-- Each device ends with its block of the reference's result. -/
theorem value : Cert.algebraic_KernelIdeal_ReferenceIdeal := by
  intro m ρ m' ρ' _ hm
  let arg (b : Ref Cert.ReferenceIdeal.sig .tc) := m' (((0 : Dev Cert.ReferenceIdeal.nD).tc : Thread Cert.ReferenceIdeal.nD Cert.ReferenceIdeal.τ).loc b)
  refine ⟨Cert.Mlp.layer (Cert.Mlp.layer (Cert.Mlp.layer (arg Cert.ReferenceIdeal.main_arg0)
    (arg Cert.ReferenceIdeal.main_arg1) (arg Cert.ReferenceIdeal.main_arg2))
    (arg Cert.ReferenceIdeal.main_arg3) (arg Cert.ReferenceIdeal.main_arg4))
    (arg Cert.ReferenceIdeal.main_arg5) (arg Cert.ReferenceIdeal.main_arg6), ?_, ?_⟩
  · refine (θ_run Cert.KernelIdeal.defs _ _).mono (fun _ h d => ⟨(h.1 d).1.trans ?_, (h.1 d).2⟩) (Cert.Mlp.run_value (F := Ideal) m ρ)
    funext i
    rw [eq_ix2 (n0 := 512) (n1 := 256) i]
    refine (Cert.Mlp.result_part (a := arg Cert.ReferenceIdeal.main_arg0) (I := Cert.Mlp.argBlocks m)
      (fun d i j => (congrFun (hm d).1 (ix2 i j)).trans (Cert.Mlp.block_act d _ i j))
      ⟨fun d t j => (congrFun (hm d).2.1 (ix2 t j)).trans (Cert.Mlp.block_win d _ t j),
        fun d t j => (congrFun (hm d).2.2.1 (ix2 t j)).trans (Cert.Mlp.block_wout d _ t j)⟩
      ⟨fun d t j => (congrFun (hm d).2.2.2.1 (ix2 t j)).trans (Cert.Mlp.block_win d _ t j),
        fun d t j => (congrFun (hm d).2.2.2.2.1 (ix2 t j)).trans (Cert.Mlp.block_wout d _ t j)⟩
      ⟨fun d t j => (congrFun (hm d).2.2.2.2.2.1 (ix2 t j)).trans (Cert.Mlp.block_win d _ t j),
        fun d t j => (congrFun (hm d).2.2.2.2.2.2 (ix2 t j)).trans (Cert.Mlp.block_wout d _ t j)⟩ d (i 0) (i 1)).trans ?_
    exact (Cert.Mlp.block_act d _ (i 0) (i 1)).symm
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  frame_kernel, frame_ideal, frame_reference, trivial, value⟩

end Cert.Proof

end
